-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_bounded [hPre_scores_bounded : Cert.Pre_scores_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_scores_bounded.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_bounded [hPre_scores_bounded : Cert.Pre_scores_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_bounded.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_scores_bounded [hKernelIdeal : Cert.KernelIdeal.Facts] [hPre_scores_bounded : Cert.Pre_scores_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_scores_bounded [hReferenceIdeal : Cert.ReferenceIdeal.Facts] [hPre_scores_bounded : Cert.Pre_scores_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_scores_bounded [hKernelIdeal : Cert.KernelIdeal.Facts] [hReferenceIdeal : Cert.ReferenceIdeal.Facts] [hPre_scores_bounded : Cert.Pre_scores_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_scores_bounded : Cert.Pre_scores_bounded.Facts),
    quiescent_Kernel (hKernel := hKernel)
    ∧ quiescent_KernelIdeal (hKernelIdeal := hKernelIdeal)
    ∧ quiescent_KernelIdeal_pre_scores_bounded (hKernelIdeal := hKernelIdeal) (hPre_scores_bounded := hPre_scores_bounded)
    ∧ quiescent_ReferenceIdeal (hReferenceIdeal := hReferenceIdeal)
    ∧ quiescent_ReferenceIdeal_pre_scores_bounded (hReferenceIdeal := hReferenceIdeal) (hPre_scores_bounded := hPre_scores_bounded)
    ∧ preserves_Kernel_KernelIdeal
    ∧ algebraic_KernelIdeal_ReferenceIdeal_pre_scores_bounded (hKernelIdeal := hKernelIdeal) (hReferenceIdeal := hReferenceIdeal) (hPre_scores_bounded := hPre_scores_bounded)
-- ==== Pre_scores_bounded.lean ====
abbrev S128x32768 : Shape := ⟨2, ![128, 32768]⟩
abbrev S_ : Shape := ⟨0, ![]⟩

class Facts : Prop where
  bcast_S_S128x32768 : S_.BroadcastsInDim S128x32768 (![] : Fin 0 → Fin S128x32768.rank)
  reducesTo_S128x32768_S_d0_1 : S128x32768.ReducesTo [0, 1] S_
  h_S_ : 0 < S_.numel

variable [Facts]

def fn {F : FTy → Type} [FloatOps F] (main_arg0 : FVec F S128x32768 .f32) : IVec S_ 1 :=
  let main_v0 : FVec F S128x32768 .f32 := Host.absf main_arg0
  let main_cst : FVec F S_ .f32 := constant S_ .f32 0x42000000#32
  let main_v1 : FVec F S128x32768 .f32 := broadcastInDim S128x32768 ![] bcast_S_S128x32768 main_cst
  let main_v2 : IVec S128x32768 1 := cmpf .ole main_v0 main_v1
  let main_c : IVec S_ 1 := constantI S_ 1 1#1
  let main_v3 : IVec S_ 1 := (fun x v => Host.reduce IntOp.andi x v reducesTo_S128x32768_S_d0_1 h_S_) main_v2 main_c
  main_v3
-- ==== Kernel.lean ====
abbrev S128x32768 : Shape := ⟨2, ![128, 32768]⟩
abbrev S_ : Shape := ⟨0, ![]⟩
abbrev S4194304 : Shape := ⟨1, ![4194304]⟩
abbrev S16x32768 : Shape := ⟨2, ![16, 32768]⟩
abbrev S16 : Shape := ⟨1, ![16]⟩
abbrev S16x1 : Shape := ⟨2, ![16, 1]⟩

abbrev nBuf : Space → Nat
  | .hbm => 263
  | .vmem => 6
  | .smem => 0
  | _ => 0

abbrev hbmTy0_0 (i : Nat) : BufTy := match i % 128 with
  | 0 => ⟨S128x32768, .f32⟩
  | 1 => ⟨S_, .i32⟩
  | 2 => ⟨S4194304, .i32⟩
  | 3 => ⟨S4194304, .i32⟩
  | 4 => ⟨S_, .i32⟩
  | 5 => ⟨S4194304, .i32⟩
  | 6 => ⟨S4194304, .i32⟩
  | 7 => ⟨S_, .i32⟩
  | 8 => ⟨S4194304, .i32⟩
  | 9 => ⟨S4194304, .i32⟩
  | 10 => ⟨S4194304, .i32⟩
  | 11 => ⟨S_, .i32⟩
  | 12 => ⟨S4194304, .i32⟩
  | 13 => ⟨S4194304, .i32⟩
  | 14 => ⟨S_, .i32⟩
  | 15 => ⟨S4194304, .i32⟩
  | 16 => ⟨S4194304, .i32⟩
  | 17 => ⟨S4194304, .i32⟩
  | 18 => ⟨S4194304, .i32⟩
  | 19 => ⟨S4194304, .i32⟩
  | 20 => ⟨S_, .i32⟩
  | 21 => ⟨S4194304, .i32⟩
  | 22 => ⟨S4194304, .i32⟩
  | 23 => ⟨S_, .i32⟩
  | 24 => ⟨S4194304, .i32⟩
  | 25 => ⟨S4194304, .i32⟩
  | 26 => ⟨S4194304, .i32⟩
  | 27 => ⟨S4194304, .i32⟩
  | 28 => ⟨S4194304, .i32⟩
  | 29 => ⟨S_, .i32⟩
  | 30 => ⟨S4194304, .i32⟩
  | 31 => ⟨S4194304, .i32⟩
  | 32 => ⟨S_, .i32⟩
  | 33 => ⟨S4194304, .i32⟩
  | 34 => ⟨S4194304, .i32⟩
  | 35 => ⟨S4194304, .i32⟩
  | 36 => ⟨S4194304, .i32⟩
  | 37 => ⟨S4194304, .i32⟩
  | 38 => ⟨S_, .i32⟩
  | 39 => ⟨S4194304, .i32⟩
  | 40 => ⟨S4194304, .i32⟩
  | 41 => ⟨S_, .i32⟩
  | 42 => ⟨S4194304, .i32⟩
  | 43 => ⟨S4194304, .i32⟩
  | 44 => ⟨S4194304, .i32⟩
  | 45 => ⟨S4194304, .i32⟩
  | 46 => ⟨S_, .i32⟩
  | 47 => ⟨S4194304, .i32⟩
  | 48 => ⟨S4194304, .i32⟩
  | 49 => ⟨S_, .i32⟩
  | 50 => ⟨S4194304, .i32⟩
  | 51 => ⟨S4194304, .i32⟩
  | 52 => ⟨S_, .i32⟩
  | 53 => ⟨S4194304, .i32⟩
  | 54 => ⟨S4194304, .i32⟩
  | 55 => ⟨S4194304, .i32⟩
  | 56 => ⟨S_, .i32⟩
  | 57 => ⟨S4194304, .i32⟩
  | 58 => ⟨S4194304, .i32⟩
  | 59 => ⟨S_, .i32⟩
  | 60 => ⟨S4194304, .i32⟩
  | 61 => ⟨S4194304, .i32⟩
  | 62 => ⟨S4194304, .i32⟩
  | 63 => ⟨S4194304, .i32⟩
  | 64 => ⟨S4194304, .i32⟩
  | 65 => ⟨S_, .i32⟩
  | 66 => ⟨S4194304, .i32⟩
  | 67 => ⟨S4194304, .i32⟩
  | 68 => ⟨S_, .i32⟩
  | 69 => ⟨S4194304, .i32⟩
  | 70 => ⟨S4194304, .i32⟩
  | 71 => ⟨S4194304, .i32⟩
  | 72 => ⟨S4194304, .i32⟩
  | 73 => ⟨S4194304, .i32⟩
  | 74 => ⟨S_, .i32⟩
  | 75 => ⟨S4194304, .i32⟩
  | 76 => ⟨S4194304, .i32⟩
  | 77 => ⟨S_, .i32⟩
  | 78 => ⟨S4194304, .i32⟩
  | 79 => ⟨S4194304, .i32⟩
  | 80 => ⟨S4194304, .i32⟩
  | 81 => ⟨S4194304, .i32⟩
  | 82 => ⟨S4194304, .i32⟩
  | 83 => ⟨S_, .i32⟩
  | 84 => ⟨S4194304, .i32⟩
  | 85 => ⟨S4194304, .i32⟩
  | 86 => ⟨S_, .i32⟩
  | 87 => ⟨S4194304, .i32⟩
  | 88 => ⟨S4194304, .i32⟩
  | 89 => ⟨S4194304, .i32⟩
  | 90 => ⟨S4194304, .i32⟩
  | 91 => ⟨S_, .i32⟩
  | 92 => ⟨S4194304, .i32⟩
  | 93 => ⟨S4194304, .i32⟩
  | 94 => ⟨S_, .i32⟩
  | 95 => ⟨S4194304, .i32⟩
  | 96 => ⟨S4194304, .i32⟩
  | 97 => ⟨S_, .i32⟩
  | 98 => ⟨S4194304, .i32⟩
  | 99 => ⟨S4194304, .i32⟩
  | 100 => ⟨S4194304, .i32⟩
  | 101 => ⟨S_, .i32⟩
  | 102 => ⟨S4194304, .i32⟩
  | 103 => ⟨S4194304, .i32⟩
  | 104 => ⟨S_, .i32⟩
  | 105 => ⟨S4194304, .i32⟩
  | 106 => ⟨S4194304, .i32⟩
  | 107 => ⟨S4194304, .i32⟩
  | 108 => ⟨S4194304, .i32⟩
  | 109 => ⟨S4194304, .i32⟩
  | 110 => ⟨S_, .i32⟩
  | 111 => ⟨S4194304, .i32⟩
  | 112 => ⟨S4194304, .i32⟩
  | 113 => ⟨S_, .i32⟩
  | 114 => ⟨S4194304, .i32⟩
  | 115 => ⟨S4194304, .i32⟩
  | 116 => ⟨S4194304, .i32⟩
  | 117 => ⟨S4194304, .i32⟩
  | 118 => ⟨S4194304, .i32⟩
  | 119 => ⟨S_, .i32⟩
  | 120 => ⟨S4194304, .i32⟩
  | 121 => ⟨S4194304, .i32⟩
  | 122 => ⟨S_, .i32⟩
  | 123 => ⟨S4194304, .i32⟩
  | 124 => ⟨S4194304, .i32⟩
  | 125 => ⟨S4194304, .i32⟩
  | 126 => ⟨S4194304, .i32⟩
  | 127 => ⟨S4194304, .i32⟩
  | _ => ⟨S128x32768, .f32⟩

abbrev hbmTy0_1 (i : Nat) : BufTy := match i % 128 with
  | 0 => ⟨S_, .i32⟩
  | 1 => ⟨S4194304, .i32⟩
  | 2 => ⟨S4194304, .i32⟩
  | 3 => ⟨S_, .i32⟩
  | 4 => ⟨S4194304, .i32⟩
  | 5 => ⟨S4194304, .i32⟩
  | 6 => ⟨S4194304, .i32⟩
  | 7 => ⟨S4194304, .i32⟩
  | 8 => ⟨S_, .i32⟩
  | 9 => ⟨S4194304, .i32⟩
  | 10 => ⟨S4194304, .i32⟩
  | 11 => ⟨S_, .i32⟩
  | 12 => ⟨S4194304, .i32⟩
  | 13 => ⟨S4194304, .i32⟩
  | 14 => ⟨S_, .i32⟩
  | 15 => ⟨S4194304, .i32⟩
  | 16 => ⟨S4194304, .i32⟩
  | 17 => ⟨S4194304, .i32⟩
  | 18 => ⟨S_, .i32⟩
  | 19 => ⟨S4194304, .i32⟩
  | 20 => ⟨S4194304, .i32⟩
  | 21 => ⟨S_, .i32⟩
  | 22 => ⟨S4194304, .i32⟩
  | 23 => ⟨S4194304, .i32⟩
  | 24 => ⟨S4194304, .i32⟩
  | 25 => ⟨S4194304, .i32⟩
  | 26 => ⟨S4194304, .i32⟩
  | 27 => ⟨S_, .i32⟩
  | 28 => ⟨S4194304, .i32⟩
  | 29 => ⟨S4194304, .i32⟩
  | 30 => ⟨S_, .i32⟩
  | 31 => ⟨S4194304, .i32⟩
  | 32 => ⟨S4194304, .i32⟩
  | 33 => ⟨S4194304, .i32⟩
  | 34 => ⟨S4194304, .i32⟩
  | 35 => ⟨S4194304, .i32⟩
  | 36 => ⟨S_, .i32⟩
  | 37 => ⟨S4194304, .i32⟩
  | 38 => ⟨S4194304, .i32⟩
  | 39 => ⟨S_, .i32⟩
  | 40 => ⟨S4194304, .i32⟩
  | 41 => ⟨S4194304, .i32⟩
  | 42 => ⟨S4194304, .i32⟩
  | 43 => ⟨S4194304, .i32⟩
  | 44 => ⟨S4194304, .i32⟩
  | 45 => ⟨S_, .i32⟩
  | 46 => ⟨S4194304, .i32⟩
  | 47 => ⟨S4194304, .i32⟩
  | 48 => ⟨S_, .i32⟩
  | 49 => ⟨S4194304, .i32⟩
  | 50 => ⟨S4194304, .i32⟩
  | 51 => ⟨S4194304, .i32⟩
  | 52 => ⟨S4194304, .i32⟩
  | 53 => ⟨S_, .i32⟩
  | 54 => ⟨S4194304, .i32⟩
  | 55 => ⟨S4194304, .i32⟩
  | 56 => ⟨S_, .i32⟩
  | 57 => ⟨S4194304, .i32⟩
  | 58 => ⟨S4194304, .i32⟩
  | 59 => ⟨S_, .i32⟩
  | 60 => ⟨S4194304, .i32⟩
  | 61 => ⟨S4194304, .i32⟩
  | 62 => ⟨S4194304, .i32⟩
  | 63 => ⟨S_, .i32⟩
  | 64 => ⟨S4194304, .i32⟩
  | 65 => ⟨S4194304, .i32⟩
  | 66 => ⟨S_, .i32⟩
  | 67 => ⟨S4194304, .i32⟩
  | 68 => ⟨S4194304, .i32⟩
  | 69 => ⟨S4194304, .i32⟩
  | 70 => ⟨S4194304, .i32⟩
  | 71 => ⟨S4194304, .i32⟩
  | 72 => ⟨S_, .i32⟩
  | 73 => ⟨S4194304, .i32⟩
  | 74 => ⟨S4194304, .i32⟩
  | 75 => ⟨S_, .i32⟩
  | 76 => ⟨S4194304, .i32⟩
  | 77 => ⟨S4194304, .i32⟩
  | 78 => ⟨S4194304, .i32⟩
  | 79 => ⟨S4194304, .i32⟩
  | 80 => ⟨S4194304, .i32⟩
  | 81 => ⟨S_, .i32⟩
  | 82 => ⟨S4194304, .i32⟩
  | 83 => ⟨S4194304, .i32⟩
  | 84 => ⟨S_, .i32⟩
  | 85 => ⟨S4194304, .i32⟩
  | 86 => ⟨S4194304, .i32⟩
  | 87 => ⟨S4194304, .i32⟩
  | 88 => ⟨S4194304, .i32⟩
  | 89 => ⟨S4194304, .i32⟩
  | 90 => ⟨S_, .i32⟩
  | 91 => ⟨S4194304, .i32⟩
  | 92 => ⟨S4194304, .i32⟩
  | 93 => ⟨S_, .i32⟩
  | 94 => ⟨S4194304, .i32⟩
  | 95 => ⟨S4194304, .i32⟩
  | 96 => ⟨S4194304, .i32⟩
  | 97 => ⟨S4194304, .i32⟩
  | 98 => ⟨S_, .i32⟩
  | 99 => ⟨S4194304, .i32⟩
  | 100 => ⟨S4194304, .i32⟩
  | 101 => ⟨S_, .i32⟩
  | 102 => ⟨S4194304, .i32⟩
  | 103 => ⟨S4194304, .i32⟩
  | 104 => ⟨S_, .i32⟩
  | 105 => ⟨S4194304, .i32⟩
  | 106 => ⟨S4194304, .i32⟩
  | 107 => ⟨S4194304, .i32⟩
  | 108 => ⟨S_, .i32⟩
  | 109 => ⟨S4194304, .i32⟩
  | 110 => ⟨S4194304, .i32⟩
  | 111 => ⟨S_, .i32⟩
  | 112 => ⟨S4194304, .i32⟩
  | 113 => ⟨S4194304, .i32⟩
  | 114 => ⟨S4194304, .f32⟩
  | 115 => ⟨S_, .f32⟩
  | 116 => ⟨S4194304, .f32⟩
  | 117 => ⟨S4194304, .f32⟩
  | 118 => ⟨S_, .f32⟩
  | 119 => ⟨S_, .f32⟩
  | 120 => ⟨S_, .f32⟩
  | 121 => ⟨S4194304, .f32⟩
  | 122 => ⟨S4194304, .f32⟩
  | 123 => ⟨S_, .f32⟩
  | 124 => ⟨S4194304, .f32⟩
  | 125 => ⟨S4194304, .f32⟩
  | 126 => ⟨S_, .f32⟩
  | 127 => ⟨S4194304, .f32⟩
  | _ => ⟨S128x32768, .f32⟩

abbrev hbmTy0_2 (i : Nat) : BufTy := match i % 128 with
  | 0 => ⟨S4194304, .f32⟩
  | 1 => ⟨S4194304, .f32⟩
  | 2 => ⟨S4194304, .f32⟩
  | 3 => ⟨S4194304, .f32⟩
  | 4 => ⟨S4194304, .f32⟩
  | 5 => ⟨S128x32768, .f32⟩
  | 6 => ⟨S128x32768, .f32⟩
  | _ => ⟨S128x32768, .f32⟩

abbrev hbmTy (i : Nat) : BufTy := match i / 128 with
  | 0 => hbmTy0_0 i
  | 1 => hbmTy0_1 i
  | 2 => hbmTy0_2 i
  | _ => ⟨S128x32768, .f32⟩

abbrev bufTy : (tb : Table) → Fin (tcTables nBuf tb) → BufTy
  | .hbm, ⟨i, _⟩ => hbmTy i
  | .local _ .vmem, ⟨0, _⟩ => ⟨S16x32768, .f32⟩
  | .local _ .vmem, ⟨1, _⟩ => ⟨S16x32768, .f32⟩
  | .local _ .vmem, ⟨2, _⟩ => ⟨S16x32768, .f32⟩
  | .local _ .vmem, ⟨3, _⟩ => ⟨S16x32768, .f32⟩
  | .local _ .vmem, ⟨4, _⟩ => ⟨S16x32768, .f32⟩
  | .local _ .vmem, ⟨5, _⟩ => ⟨S16x32768, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_v0 : Ref sig .tc := ⟨.hbm, 2, rfl⟩
abbrev main_call0_v1 : Ref sig .tc := ⟨.hbm, 3, rfl⟩
abbrev main_call0_c_0 : Ref sig .tc := ⟨.hbm, 4, rfl⟩
abbrev main_call0_v2 : Ref sig .tc := ⟨.hbm, 5, rfl⟩
abbrev main_call0_v3 : Ref sig .tc := ⟨.hbm, 6, rfl⟩
abbrev main_call0_c_1 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_c_2 : Ref sig .tc := ⟨.hbm, 11, rfl⟩
abbrev main_call0_v7 : Ref sig .tc := ⟨.hbm, 12, rfl⟩
abbrev main_call0_v8 : Ref sig .tc := ⟨.hbm, 13, rfl⟩
abbrev main_call0_c_3 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_c_4 : Ref sig .tc := ⟨.hbm, 20, rfl⟩
abbrev main_call0_v14 : Ref sig .tc := ⟨.hbm, 21, rfl⟩
abbrev main_call0_v15 : Ref sig .tc := ⟨.hbm, 22, rfl⟩
abbrev main_call0_c_5 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_c_6 : Ref sig .tc := ⟨.hbm, 29, rfl⟩
abbrev main_call0_v21 : Ref sig .tc := ⟨.hbm, 30, rfl⟩
abbrev main_call0_v22 : Ref sig .tc := ⟨.hbm, 31, rfl⟩
abbrev main_call0_c_7 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_c_8 : Ref sig .tc := ⟨.hbm, 38, rfl⟩
abbrev main_call0_v28 : Ref sig .tc := ⟨.hbm, 39, rfl⟩
abbrev main_call0_v29 : Ref sig .tc := ⟨.hbm, 40, rfl⟩
abbrev main_call0_c_9 : Ref sig .tc := ⟨.hbm, 41, rfl⟩
abbrev main_call0_v30 : Ref sig .tc := ⟨.hbm, 42, rfl⟩
abbrev main_call0_v31 : Ref sig .tc := ⟨.hbm, 43, rfl⟩
abbrev main_call0_v32 : Ref sig .tc := ⟨.hbm, 44, rfl⟩
abbrev main_call0_v33 : Ref sig .tc := ⟨.hbm, 45, rfl⟩
abbrev main_call0_c_10 : Ref sig .tc := ⟨.hbm, 46, rfl⟩
abbrev main_call0_v34 : Ref sig .tc := ⟨.hbm, 47, rfl⟩
abbrev main_call0_v35 : Ref sig .tc := ⟨.hbm, 48, rfl⟩
abbrev main_call0_c_11 : Ref sig .tc := ⟨.hbm, 49, rfl⟩
abbrev main_call0_v36 : Ref sig .tc := ⟨.hbm, 50, rfl⟩
abbrev main_call0_v37 : Ref sig .tc := ⟨.hbm, 51, rfl⟩
abbrev main_call0_c_12 : Ref sig .tc := ⟨.hbm, 52, rfl⟩
abbrev main_call0_v38 : Ref sig .tc := ⟨.hbm, 53, rfl⟩
abbrev main_call0_v39 : Ref sig .tc := ⟨.hbm, 54, rfl⟩
abbrev main_call0_v40 : Ref sig .tc := ⟨.hbm, 55, rfl⟩
abbrev main_call0_c_13 : Ref sig .tc := ⟨.hbm, 56, rfl⟩
abbrev main_call0_v41 : Ref sig .tc := ⟨.hbm, 57, rfl⟩
abbrev main_call0_v42 : Ref sig .tc := ⟨.hbm, 58, rfl⟩
abbrev main_call0_c_14 : Ref sig .tc := ⟨.hbm, 59, rfl⟩
abbrev main_call0_v43 : Ref sig .tc := ⟨.hbm, 60, rfl⟩
abbrev main_call0_v44 : Ref sig .tc := ⟨.hbm, 61, rfl⟩
abbrev main_call0_v45 : Ref sig .tc := ⟨.hbm, 62, rfl⟩
abbrev main_call0_v46 : Ref sig .tc := ⟨.hbm, 63, rfl⟩
abbrev main_call0_v47 : Ref sig .tc := ⟨.hbm, 64, rfl⟩
abbrev main_call0_c_15 : Ref sig .tc := ⟨.hbm, 65, rfl⟩
abbrev main_call0_v48 : Ref sig .tc := ⟨.hbm, 66, rfl⟩
abbrev main_call0_v49 : Ref sig .tc := ⟨.hbm, 67, rfl⟩
abbrev main_call0_c_16 : Ref sig .tc := ⟨.hbm, 68, rfl⟩
abbrev main_call0_v50 : Ref sig .tc := ⟨.hbm, 69, rfl⟩
abbrev main_call0_v51 : Ref sig .tc := ⟨.hbm, 70, rfl⟩
abbrev main_call0_v52 : Ref sig .tc := ⟨.hbm, 71, rfl⟩
abbrev main_call0_v53 : Ref sig .tc := ⟨.hbm, 72, rfl⟩
abbrev main_call0_v54 : Ref sig .tc := ⟨.hbm, 73, rfl⟩
abbrev main_call0_c_17 : Ref sig .tc := ⟨.hbm, 74, rfl⟩
abbrev main_call0_v55 : Ref sig .tc := ⟨.hbm, 75, rfl⟩
abbrev main_call0_v56 : Ref sig .tc := ⟨.hbm, 76, rfl⟩
abbrev main_call0_c_18 : Ref sig .tc := ⟨.hbm, 77, rfl⟩
abbrev main_call0_v57 : Ref sig .tc := ⟨.hbm, 78, rfl⟩
abbrev main_call0_v58 : Ref sig .tc := ⟨.hbm, 79, rfl⟩
abbrev main_call0_v59 : Ref sig .tc := ⟨.hbm, 80, rfl⟩
abbrev main_call0_v60 : Ref sig .tc := ⟨.hbm, 81, rfl⟩
abbrev main_call0_v61 : Ref sig .tc := ⟨.hbm, 82, rfl⟩
abbrev main_call0_c_19 : Ref sig .tc := ⟨.hbm, 83, rfl⟩
abbrev main_call0_v62 : Ref sig .tc := ⟨.hbm, 84, rfl⟩
abbrev main_call0_v63 : Ref sig .tc := ⟨.hbm, 85, rfl⟩
abbrev main_call0_c_20 : Ref sig .tc := ⟨.hbm, 86, rfl⟩
abbrev main_call0_v64 : Ref sig .tc := ⟨.hbm, 87, rfl⟩
abbrev main_call0_v65 : Ref sig .tc := ⟨.hbm, 88, rfl⟩
abbrev main_call0_v66 : Ref sig .tc := ⟨.hbm, 89, rfl⟩
abbrev main_call0_v67 : Ref sig .tc := ⟨.hbm, 90, rfl⟩
abbrev main_call0_c_21 : Ref sig .tc := ⟨.hbm, 91, rfl⟩
abbrev main_call0_v68 : Ref sig .tc := ⟨.hbm, 92, rfl⟩
abbrev main_call0_v69 : Ref sig .tc := ⟨.hbm, 93, rfl⟩
abbrev main_call0_c_22 : Ref sig .tc := ⟨.hbm, 94, rfl⟩
abbrev main_call0_v70 : Ref sig .tc := ⟨.hbm, 95, rfl⟩
abbrev main_call0_v71 : Ref sig .tc := ⟨.hbm, 96, rfl⟩
abbrev main_call0_c_23 : Ref sig .tc := ⟨.hbm, 97, rfl⟩
abbrev main_call0_v72 : Ref sig .tc := ⟨.hbm, 98, rfl⟩
abbrev main_call0_v73 : Ref sig .tc := ⟨.hbm, 99, rfl⟩
abbrev main_call0_v74 : Ref sig .tc := ⟨.hbm, 100, rfl⟩
abbrev main_call0_c_24 : Ref sig .tc := ⟨.hbm, 101, rfl⟩
abbrev main_call0_v75 : Ref sig .tc := ⟨.hbm, 102, rfl⟩
abbrev main_call0_v76 : Ref sig .tc := ⟨.hbm, 103, rfl⟩
abbrev main_call0_c_25 : Ref sig .tc := ⟨.hbm, 104, rfl⟩
abbrev main_call0_v77 : Ref sig .tc := ⟨.hbm, 105, rfl⟩
abbrev main_call0_v78 : Ref sig .tc := ⟨.hbm, 106, rfl⟩
abbrev main_call0_v79 : Ref sig .tc := ⟨.hbm, 107, rfl⟩
abbrev main_call0_v80 : Ref sig .tc := ⟨.hbm, 108, rfl⟩
abbrev main_call0_v81 : Ref sig .tc := ⟨.hbm, 109, rfl⟩
abbrev main_call0_c_26 : Ref sig .tc := ⟨.hbm, 110, rfl⟩
abbrev main_call0_v82 : Ref sig .tc := ⟨.hbm, 111, rfl⟩
abbrev main_call0_v83 : Ref sig .tc := ⟨.hbm, 112, rfl⟩
abbrev main_call0_c_27 : Ref sig .tc := ⟨.hbm, 113, rfl⟩
abbrev main_call0_v84 : Ref sig .tc := ⟨.hbm, 114, rfl⟩
abbrev main_call0_v85 : Ref sig .tc := ⟨.hbm, 115, rfl⟩
abbrev main_call0_v86 : Ref sig .tc := ⟨.hbm, 116, rfl⟩
abbrev main_call0_v87 : Ref sig .tc := ⟨.hbm, 117, rfl⟩
abbrev main_call0_v88 : Ref sig .tc := ⟨.hbm, 118, rfl⟩
abbrev main_call0_c_28 : Ref sig .tc := ⟨.hbm, 119, rfl⟩
abbrev main_call0_v89 : Ref sig .tc := ⟨.hbm, 120, rfl⟩
abbrev main_call0_v90 : Ref sig .tc := ⟨.hbm, 121, rfl⟩
abbrev main_call0_c_29 : Ref sig .tc := ⟨.hbm, 122, rfl⟩
abbrev main_call0_v91 : Ref sig .tc := ⟨.hbm, 123, rfl⟩
abbrev main_call0_v92 : Ref sig .tc := ⟨.hbm, 124, rfl⟩
abbrev main_call0_v93 : Ref sig .tc := ⟨.hbm, 125, rfl⟩
abbrev main_call0_v94 : Ref sig .tc := ⟨.hbm, 126, rfl⟩
abbrev main_call0_v95 : Ref sig .tc := ⟨.hbm, 127, rfl⟩
abbrev main_call0_c_30 : Ref sig .tc := ⟨.hbm, 128, rfl⟩
abbrev main_call0_v96 : Ref sig .tc := ⟨.hbm, 129, rfl⟩
abbrev main_call0_v97 : Ref sig .tc := ⟨.hbm, 130, rfl⟩
abbrev main_call0_c_31 : Ref sig .tc := ⟨.hbm, 131, rfl⟩
abbrev main_call0_v98 : Ref sig .tc := ⟨.hbm, 132, rfl⟩
abbrev main_call0_v99 : Ref sig .tc := ⟨.hbm, 133, rfl⟩
abbrev main_call0_v100 : Ref sig .tc := ⟨.hbm, 134, rfl⟩
abbrev main_call0_v101 : Ref sig .tc := ⟨.hbm, 135, rfl⟩
abbrev main_call0_c_32 : Ref sig .tc := ⟨.hbm, 136, rfl⟩
abbrev main_call0_v102 : Ref sig .tc := ⟨.hbm, 137, rfl⟩
abbrev main_call0_v103 : Ref sig .tc := ⟨.hbm, 138, rfl⟩
abbrev main_call0_c_33 : Ref sig .tc := ⟨.hbm, 139, rfl⟩
abbrev main_call0_v104 : Ref sig .tc := ⟨.hbm, 140, rfl⟩
abbrev main_call0_v105 : Ref sig .tc := ⟨.hbm, 141, rfl⟩
abbrev main_call0_c_34 : Ref sig .tc := ⟨.hbm, 142, rfl⟩
abbrev main_call0_v106 : Ref sig .tc := ⟨.hbm, 143, rfl⟩
abbrev main_call0_v107 : Ref sig .tc := ⟨.hbm, 144, rfl⟩
abbrev main_call0_v108 : Ref sig .tc := ⟨.hbm, 145, rfl⟩
abbrev main_call0_c_35 : Ref sig .tc := ⟨.hbm, 146, rfl⟩
abbrev main_call0_v109 : Ref sig .tc := ⟨.hbm, 147, rfl⟩
abbrev main_call0_v110 : Ref sig .tc := ⟨.hbm, 148, rfl⟩
abbrev main_call0_c_36 : Ref sig .tc := ⟨.hbm, 149, rfl⟩
abbrev main_call0_v111 : Ref sig .tc := ⟨.hbm, 150, rfl⟩
abbrev main_call0_v112 : Ref sig .tc := ⟨.hbm, 151, rfl⟩
abbrev main_call0_v113 : Ref sig .tc := ⟨.hbm, 152, rfl⟩
abbrev main_call0_v114 : Ref sig .tc := ⟨.hbm, 153, rfl⟩
abbrev main_call0_v115 : Ref sig .tc := ⟨.hbm, 154, rfl⟩
abbrev main_call0_c_37 : Ref sig .tc := ⟨.hbm, 155, rfl⟩
abbrev main_call0_v116 : Ref sig .tc := ⟨.hbm, 156, rfl⟩
abbrev main_call0_v117 : Ref sig .tc := ⟨.hbm, 157, rfl⟩
abbrev main_call0_c_38 : Ref sig .tc := ⟨.hbm, 158, rfl⟩
abbrev main_call0_v118 : Ref sig .tc := ⟨.hbm, 159, rfl⟩
abbrev main_call0_v119 : Ref sig .tc := ⟨.hbm, 160, rfl⟩
abbrev main_call0_v120 : Ref sig .tc := ⟨.hbm, 161, rfl⟩
abbrev main_call0_v121 : Ref sig .tc := ⟨.hbm, 162, rfl⟩
abbrev main_call0_v122 : Ref sig .tc := ⟨.hbm, 163, rfl⟩
abbrev main_call0_c_39 : Ref sig .tc := ⟨.hbm, 164, rfl⟩
abbrev main_call0_v123 : Ref sig .tc := ⟨.hbm, 165, rfl⟩
abbrev main_call0_v124 : Ref sig .tc := ⟨.hbm, 166, rfl⟩
abbrev main_call0_c_40 : Ref sig .tc := ⟨.hbm, 167, rfl⟩
abbrev main_call0_v125 : Ref sig .tc := ⟨.hbm, 168, rfl⟩
abbrev main_call0_v126 : Ref sig .tc := ⟨.hbm, 169, rfl⟩
abbrev main_call0_v127 : Ref sig .tc := ⟨.hbm, 170, rfl⟩
abbrev main_call0_v128 : Ref sig .tc := ⟨.hbm, 171, rfl⟩
abbrev main_call0_v129 : Ref sig .tc := ⟨.hbm, 172, rfl⟩
abbrev main_call0_c_41 : Ref sig .tc := ⟨.hbm, 173, rfl⟩
abbrev main_call0_v130 : Ref sig .tc := ⟨.hbm, 174, rfl⟩
abbrev main_call0_v131 : Ref sig .tc := ⟨.hbm, 175, rfl⟩
abbrev main_call0_c_42 : Ref sig .tc := ⟨.hbm, 176, rfl⟩
abbrev main_call0_v132 : Ref sig .tc := ⟨.hbm, 177, rfl⟩
abbrev main_call0_v133 : Ref sig .tc := ⟨.hbm, 178, rfl⟩
abbrev main_call0_v134 : Ref sig .tc := ⟨.hbm, 179, rfl⟩
abbrev main_call0_v135 : Ref sig .tc := ⟨.hbm, 180, rfl⟩
abbrev main_call0_c_43 : Ref sig .tc := ⟨.hbm, 181, rfl⟩
abbrev main_call0_v136 : Ref sig .tc := ⟨.hbm, 182, rfl⟩
abbrev main_call0_v137 : Ref sig .tc := ⟨.hbm, 183, rfl⟩
abbrev main_call0_c_44 : Ref sig .tc := ⟨.hbm, 184, rfl⟩
abbrev main_call0_v138 : Ref sig .tc := ⟨.hbm, 185, rfl⟩
abbrev main_call0_v139 : Ref sig .tc := ⟨.hbm, 186, rfl⟩
abbrev main_call0_c_45 : Ref sig .tc := ⟨.hbm, 187, rfl⟩
abbrev main_call0_v140 : Ref sig .tc := ⟨.hbm, 188, rfl⟩
abbrev main_call0_v141 : Ref sig .tc := ⟨.hbm, 189, rfl⟩
abbrev main_call0_v142 : Ref sig .tc := ⟨.hbm, 190, rfl⟩
abbrev main_call0_c_46 : Ref sig .tc := ⟨.hbm, 191, rfl⟩
abbrev main_call0_v143 : Ref sig .tc := ⟨.hbm, 192, rfl⟩
abbrev main_call0_v144 : Ref sig .tc := ⟨.hbm, 193, rfl⟩
abbrev main_call0_c_47 : Ref sig .tc := ⟨.hbm, 194, rfl⟩
abbrev main_call0_v145 : Ref sig .tc := ⟨.hbm, 195, rfl⟩
abbrev main_call0_v146 : Ref sig .tc := ⟨.hbm, 196, rfl⟩
abbrev main_call0_v147 : Ref sig .tc := ⟨.hbm, 197, rfl⟩
abbrev main_call0_v148 : Ref sig .tc := ⟨.hbm, 198, rfl⟩
abbrev main_call0_v149 : Ref sig .tc := ⟨.hbm, 199, rfl⟩
abbrev main_call0_c_48 : Ref sig .tc := ⟨.hbm, 200, rfl⟩
abbrev main_call0_v150 : Ref sig .tc := ⟨.hbm, 201, rfl⟩
abbrev main_call0_v151 : Ref sig .tc := ⟨.hbm, 202, rfl⟩
abbrev main_call0_c_49 : Ref sig .tc := ⟨.hbm, 203, rfl⟩
abbrev main_call0_v152 : Ref sig .tc := ⟨.hbm, 204, rfl⟩
abbrev main_call0_v153 : Ref sig .tc := ⟨.hbm, 205, rfl⟩
abbrev main_call0_v154 : Ref sig .tc := ⟨.hbm, 206, rfl⟩
abbrev main_call0_v155 : Ref sig .tc := ⟨.hbm, 207, rfl⟩
abbrev main_call0_v156 : Ref sig .tc := ⟨.hbm, 208, rfl⟩
abbrev main_call0_c_50 : Ref sig .tc := ⟨.hbm, 209, rfl⟩
abbrev main_call0_v157 : Ref sig .tc := ⟨.hbm, 210, rfl⟩
abbrev main_call0_v158 : Ref sig .tc := ⟨.hbm, 211, rfl⟩
abbrev main_call0_c_51 : Ref sig .tc := ⟨.hbm, 212, rfl⟩
abbrev main_call0_v159 : Ref sig .tc := ⟨.hbm, 213, rfl⟩
abbrev main_call0_v160 : Ref sig .tc := ⟨.hbm, 214, rfl⟩
abbrev main_call0_v161 : Ref sig .tc := ⟨.hbm, 215, rfl⟩
abbrev main_call0_v162 : Ref sig .tc := ⟨.hbm, 216, rfl⟩
abbrev main_call0_v163 : Ref sig .tc := ⟨.hbm, 217, rfl⟩
abbrev main_call0_c_52 : Ref sig .tc := ⟨.hbm, 218, rfl⟩
abbrev main_call0_v164 : Ref sig .tc := ⟨.hbm, 219, rfl⟩
abbrev main_call0_v165 : Ref sig .tc := ⟨.hbm, 220, rfl⟩
abbrev main_call0_c_53 : Ref sig .tc := ⟨.hbm, 221, rfl⟩
abbrev main_call0_v166 : Ref sig .tc := ⟨.hbm, 222, rfl⟩
abbrev main_call0_v167 : Ref sig .tc := ⟨.hbm, 223, rfl⟩
abbrev main_call0_v168 : Ref sig .tc := ⟨.hbm, 224, rfl⟩
abbrev main_call0_v169 : Ref sig .tc := ⟨.hbm, 225, rfl⟩
abbrev main_call0_c_54 : Ref sig .tc := ⟨.hbm, 226, rfl⟩
abbrev main_call0_v170 : Ref sig .tc := ⟨.hbm, 227, rfl⟩
abbrev main_call0_v171 : Ref sig .tc := ⟨.hbm, 228, rfl⟩
abbrev main_call0_c_55 : Ref sig .tc := ⟨.hbm, 229, rfl⟩
abbrev main_call0_v172 : Ref sig .tc := ⟨.hbm, 230, rfl⟩
abbrev main_call0_v173 : Ref sig .tc := ⟨.hbm, 231, rfl⟩
abbrev main_call0_c_56 : Ref sig .tc := ⟨.hbm, 232, rfl⟩
abbrev main_call0_v174 : Ref sig .tc := ⟨.hbm, 233, rfl⟩
abbrev main_call0_v175 : Ref sig .tc := ⟨.hbm, 234, rfl⟩
abbrev main_call0_v176 : Ref sig .tc := ⟨.hbm, 235, rfl⟩
abbrev main_call0_c_57 : Ref sig .tc := ⟨.hbm, 236, rfl⟩
abbrev main_call0_v177 : Ref sig .tc := ⟨.hbm, 237, rfl⟩
abbrev main_call0_v178 : Ref sig .tc := ⟨.hbm, 238, rfl⟩
abbrev main_call0_c_58 : Ref sig .tc := ⟨.hbm, 239, rfl⟩
abbrev main_call0_v179 : Ref sig .tc := ⟨.hbm, 240, rfl⟩
abbrev main_call0_v180 : Ref sig .tc := ⟨.hbm, 241, rfl⟩
abbrev main_call0_v181 : Ref sig .tc := ⟨.hbm, 242, rfl⟩
abbrev main_call0_cst : Ref sig .tc := ⟨.hbm, 243, rfl⟩
abbrev main_call0_v182 : Ref sig .tc := ⟨.hbm, 244, rfl⟩
abbrev main_call0_v183 : Ref sig .tc := ⟨.hbm, 245, rfl⟩
abbrev main_call0_cst_59 : Ref sig .tc := ⟨.hbm, 246, rfl⟩
abbrev main_call0_cst_60 : Ref sig .tc := ⟨.hbm, 247, rfl⟩
abbrev main_call0_v184 : Ref sig .tc := ⟨.hbm, 248, rfl⟩
abbrev main_call0_v185 : Ref sig .tc := ⟨.hbm, 249, rfl⟩
abbrev main_call0_v186 : Ref sig .tc := ⟨.hbm, 250, rfl⟩
abbrev main_call0_cst_61 : Ref sig .tc := ⟨.hbm, 251, rfl⟩
abbrev main_call0_v187 : Ref sig .tc := ⟨.hbm, 252, rfl⟩
abbrev main_call0_v188 : Ref sig .tc := ⟨.hbm, 253, rfl⟩
abbrev main_call0_cst_62 : Ref sig .tc := ⟨.hbm, 254, rfl⟩
abbrev main_call0_v189 : Ref sig .tc := ⟨.hbm, 255, rfl⟩
abbrev main_call0_v190 : Ref sig .tc := ⟨.hbm, 256, rfl⟩
abbrev main_call0_v191 : Ref sig .tc := ⟨.hbm, 257, rfl⟩
abbrev main_call0_v192 : Ref sig .tc := ⟨.hbm, 258, rfl⟩
abbrev main_call0_v193 : Ref sig .tc := ⟨.hbm, 259, rfl⟩
abbrev main_call0_v194 : Ref sig .tc := ⟨.hbm, 260, rfl⟩
abbrev main_call0_v195 : Ref sig .tc := ⟨.hbm, 261, rfl⟩
abbrev main_v0 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x32768 : Shape := ⟨2, ![128, 32768]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩

abbrev nBuf : Space → Nat
  | .hbm => 491
  | .vmem => 0
  | .smem => 0
  | _ => 0

abbrev hbmTy0_0 (i : Nat) : BufTy := match i % 128 with
  | 0 => ⟨S128x32768, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S1x1, .f32⟩
  | 15 => ⟨S1x1, .f32⟩
  | 16 => ⟨S1, .i32⟩
  | 17 => ⟨S_, .i32⟩
  | 18 => ⟨S1, .i32⟩
  | 19 => ⟨S_, .i32⟩
  | 20 => ⟨S128x32768, .i64⟩
  | 21 => ⟨S128x32768, .i64⟩
  | 22 => ⟨S_, .i64⟩
  | 23 => ⟨S128x32768, .i64⟩
  | 24 => ⟨S128x32768, .i64⟩
  | 25 => ⟨S_, .i64⟩
  | 26 => ⟨S128x32768, .i64⟩
  | 27 => ⟨S128x32768, .i64⟩
  | 28 => ⟨S128x32768, .i64⟩
  | 29 => ⟨S_, .i64⟩
  | 30 => ⟨S128x32768, .i64⟩
  | 31 => ⟨S128x32768, .i64⟩
  | 32 => ⟨S128x32768, .i32⟩
  | 33 => ⟨S128x32768, .i32⟩
  | 34 => ⟨S_, .i32⟩
  | 35 => ⟨S_, .i32⟩
  | 36 => ⟨S_, .i32⟩
  | 37 => ⟨S128x32768, .i32⟩
  | 38 => ⟨S128x32768, .i32⟩
  | 39 => ⟨S128x32768, .i32⟩
  | 40 => ⟨S128x32768, .i32⟩
  | 41 => ⟨S128x32768, .i32⟩
  | 42 => ⟨S_, .i32⟩
  | 43 => ⟨S128x32768, .i32⟩
  | 44 => ⟨S128x32768, .i32⟩
  | 45 => ⟨S_, .i32⟩
  | 46 => ⟨S128x32768, .i32⟩
  | 47 => ⟨S128x32768, .i32⟩
  | 48 => ⟨S128x32768, .i32⟩
  | 49 => ⟨S128x32768, .i32⟩
  | 50 => ⟨S128x32768, .i32⟩
  | 51 => ⟨S_, .i32⟩
  | 52 => ⟨S128x32768, .i32⟩
  | 53 => ⟨S128x32768, .i32⟩
  | 54 => ⟨S_, .i32⟩
  | 55 => ⟨S128x32768, .i32⟩
  | 56 => ⟨S128x32768, .i32⟩
  | 57 => ⟨S128x32768, .i32⟩
  | 58 => ⟨S128x32768, .i32⟩
  | 59 => ⟨S128x32768, .i32⟩
  | 60 => ⟨S_, .i32⟩
  | 61 => ⟨S128x32768, .i32⟩
  | 62 => ⟨S128x32768, .i32⟩
  | 63 => ⟨S_, .i32⟩
  | 64 => ⟨S128x32768, .i32⟩
  | 65 => ⟨S128x32768, .i32⟩
  | 66 => ⟨S128x32768, .i32⟩
  | 67 => ⟨S128x32768, .i32⟩
  | 68 => ⟨S128x32768, .i32⟩
  | 69 => ⟨S_, .i32⟩
  | 70 => ⟨S128x32768, .i32⟩
  | 71 => ⟨S128x32768, .i32⟩
  | 72 => ⟨S_, .i32⟩
  | 73 => ⟨S128x32768, .i32⟩
  | 74 => ⟨S128x32768, .i32⟩
  | 75 => ⟨S128x32768, .i32⟩
  | 76 => ⟨S128x32768, .i32⟩
  | 77 => ⟨S128x32768, .i32⟩
  | 78 => ⟨S128x32768, .i32⟩
  | 79 => ⟨S128x32768, .i32⟩
  | 80 => ⟨S128x32768, .i32⟩
  | 81 => ⟨S_, .i32⟩
  | 82 => ⟨S128x32768, .i32⟩
  | 83 => ⟨S128x32768, .i32⟩
  | 84 => ⟨S128x32768, .i32⟩
  | 85 => ⟨S_, .i32⟩
  | 86 => ⟨S128x32768, .i32⟩
  | 87 => ⟨S128x32768, .i32⟩
  | 88 => ⟨S_, .i32⟩
  | 89 => ⟨S128x32768, .i32⟩
  | 90 => ⟨S128x32768, .i32⟩
  | 91 => ⟨S128x32768, .i32⟩
  | 92 => ⟨S128x32768, .i32⟩
  | 93 => ⟨S128x32768, .i32⟩
  | 94 => ⟨S_, .i32⟩
  | 95 => ⟨S128x32768, .i32⟩
  | 96 => ⟨S128x32768, .i32⟩
  | 97 => ⟨S_, .i32⟩
  | 98 => ⟨S128x32768, .i32⟩
  | 99 => ⟨S128x32768, .i32⟩
  | 100 => ⟨S128x32768, .i32⟩
  | 101 => ⟨S128x32768, .i32⟩
  | 102 => ⟨S128x32768, .i32⟩
  | 103 => ⟨S_, .i32⟩
  | 104 => ⟨S128x32768, .i32⟩
  | 105 => ⟨S128x32768, .i32⟩
  | 106 => ⟨S_, .i32⟩
  | 107 => ⟨S128x32768, .i32⟩
  | 108 => ⟨S128x32768, .i32⟩
  | 109 => ⟨S128x32768, .i32⟩
  | 110 => ⟨S128x32768, .i32⟩
  | 111 => ⟨S128x32768, .i32⟩
  | 112 => ⟨S_, .i32⟩
  | 113 => ⟨S128x32768, .i32⟩
  | 114 => ⟨S128x32768, .i32⟩
  | 115 => ⟨S_, .i32⟩
  | 116 => ⟨S128x32768, .i32⟩
  | 117 => ⟨S128x32768, .i32⟩
  | 118 => ⟨S128x32768, .i32⟩
  | 119 => ⟨S128x32768, .i32⟩
  | 120 => ⟨S128x32768, .i32⟩
  | 121 => ⟨S128x32768, .i32⟩
  | 122 => ⟨S128x32768, .i32⟩
  | 123 => ⟨S128x32768, .i32⟩
  | 124 => ⟨S_, .i32⟩
  | 125 => ⟨S128x32768, .i32⟩
  | 126 => ⟨S128x32768, .i32⟩
  | 127 => ⟨S128x32768, .i32⟩
  | _ => ⟨S128x32768, .f32⟩

abbrev hbmTy0_1 (i : Nat) : BufTy := match i % 128 with
  | 0 => ⟨S_, .i32⟩
  | 1 => ⟨S128x32768, .i32⟩
  | 2 => ⟨S128x32768, .i32⟩
  | 3 => ⟨S_, .i32⟩
  | 4 => ⟨S128x32768, .i32⟩
  | 5 => ⟨S128x32768, .i32⟩
  | 6 => ⟨S128x32768, .i32⟩
  | 7 => ⟨S128x32768, .i32⟩
  | 8 => ⟨S128x32768, .i32⟩
  | 9 => ⟨S_, .i32⟩
  | 10 => ⟨S128x32768, .i32⟩
  | 11 => ⟨S128x32768, .i32⟩
  | 12 => ⟨S_, .i32⟩
  | 13 => ⟨S128x32768, .i32⟩
  | 14 => ⟨S128x32768, .i32⟩
  | 15 => ⟨S128x32768, .i32⟩
  | 16 => ⟨S128x32768, .i32⟩
  | 17 => ⟨S128x32768, .i32⟩
  | 18 => ⟨S_, .i32⟩
  | 19 => ⟨S128x32768, .i32⟩
  | 20 => ⟨S128x32768, .i32⟩
  | 21 => ⟨S_, .i32⟩
  | 22 => ⟨S128x32768, .i32⟩
  | 23 => ⟨S128x32768, .i32⟩
  | 24 => ⟨S128x32768, .i32⟩
  | 25 => ⟨S128x32768, .i32⟩
  | 26 => ⟨S128x32768, .i32⟩
  | 27 => ⟨S_, .i32⟩
  | 28 => ⟨S128x32768, .i32⟩
  | 29 => ⟨S128x32768, .i32⟩
  | 30 => ⟨S_, .i32⟩
  | 31 => ⟨S128x32768, .i32⟩
  | 32 => ⟨S128x32768, .i32⟩
  | 33 => ⟨S128x32768, .i32⟩
  | 34 => ⟨S128x32768, .i32⟩
  | 35 => ⟨S128x32768, .i32⟩
  | 36 => ⟨S128x32768, .i32⟩
  | 37 => ⟨S128x32768, .i32⟩
  | 38 => ⟨S128x32768, .i32⟩
  | 39 => ⟨S_, .i32⟩
  | 40 => ⟨S128x32768, .i32⟩
  | 41 => ⟨S128x32768, .i32⟩
  | 42 => ⟨S128x32768, .i32⟩
  | 43 => ⟨S_, .i32⟩
  | 44 => ⟨S128x32768, .i32⟩
  | 45 => ⟨S128x32768, .i32⟩
  | 46 => ⟨S_, .i32⟩
  | 47 => ⟨S128x32768, .i32⟩
  | 48 => ⟨S128x32768, .i32⟩
  | 49 => ⟨S128x32768, .i32⟩
  | 50 => ⟨S128x32768, .i32⟩
  | 51 => ⟨S128x32768, .i32⟩
  | 52 => ⟨S_, .i32⟩
  | 53 => ⟨S128x32768, .i32⟩
  | 54 => ⟨S128x32768, .i32⟩
  | 55 => ⟨S_, .i32⟩
  | 56 => ⟨S128x32768, .i32⟩
  | 57 => ⟨S128x32768, .i32⟩
  | 58 => ⟨S128x32768, .i32⟩
  | 59 => ⟨S128x32768, .i32⟩
  | 60 => ⟨S128x32768, .i32⟩
  | 61 => ⟨S_, .i32⟩
  | 62 => ⟨S128x32768, .i32⟩
  | 63 => ⟨S128x32768, .i32⟩
  | 64 => ⟨S_, .i32⟩
  | 65 => ⟨S128x32768, .i32⟩
  | 66 => ⟨S128x32768, .i32⟩
  | 67 => ⟨S128x32768, .i32⟩
  | 68 => ⟨S128x32768, .i32⟩
  | 69 => ⟨S128x32768, .i32⟩
  | 70 => ⟨S_, .i32⟩
  | 71 => ⟨S128x32768, .i32⟩
  | 72 => ⟨S128x32768, .i32⟩
  | 73 => ⟨S_, .i32⟩
  | 74 => ⟨S128x32768, .i32⟩
  | 75 => ⟨S128x32768, .i32⟩
  | 76 => ⟨S128x32768, .i32⟩
  | 77 => ⟨S128x32768, .i32⟩
  | 78 => ⟨S128x32768, .i32⟩
  | 79 => ⟨S128x32768, .i32⟩
  | 80 => ⟨S128x32768, .i32⟩
  | 81 => ⟨S128x32768, .i32⟩
  | 82 => ⟨S_, .i32⟩
  | 83 => ⟨S128x32768, .i32⟩
  | 84 => ⟨S128x32768, .i32⟩
  | 85 => ⟨S128x32768, .i32⟩
  | 86 => ⟨S_, .i32⟩
  | 87 => ⟨S128x32768, .i32⟩
  | 88 => ⟨S128x32768, .i32⟩
  | 89 => ⟨S_, .i32⟩
  | 90 => ⟨S128x32768, .i32⟩
  | 91 => ⟨S128x32768, .i32⟩
  | 92 => ⟨S128x32768, .i32⟩
  | 93 => ⟨S128x32768, .i32⟩
  | 94 => ⟨S128x32768, .i32⟩
  | 95 => ⟨S_, .i32⟩
  | 96 => ⟨S128x32768, .i32⟩
  | 97 => ⟨S128x32768, .i32⟩
  | 98 => ⟨S_, .i32⟩
  | 99 => ⟨S128x32768, .i32⟩
  | 100 => ⟨S128x32768, .i32⟩
  | 101 => ⟨S128x32768, .i32⟩
  | 102 => ⟨S128x32768, .i32⟩
  | 103 => ⟨S128x32768, .i32⟩
  | 104 => ⟨S_, .i32⟩
  | 105 => ⟨S128x32768, .i32⟩
  | 106 => ⟨S128x32768, .i32⟩
  | 107 => ⟨S_, .i32⟩
  | 108 => ⟨S128x32768, .i32⟩
  | 109 => ⟨S128x32768, .i32⟩
  | 110 => ⟨S128x32768, .i32⟩
  | 111 => ⟨S128x32768, .i32⟩
  | 112 => ⟨S128x32768, .i32⟩
  | 113 => ⟨S_, .i32⟩
  | 114 => ⟨S128x32768, .i32⟩
  | 115 => ⟨S128x32768, .i32⟩
  | 116 => ⟨S_, .i32⟩
  | 117 => ⟨S128x32768, .i32⟩
  | 118 => ⟨S128x32768, .i32⟩
  | 119 => ⟨S128x32768, .i32⟩
  | 120 => ⟨S128x32768, .i32⟩
  | 121 => ⟨S128x32768, .i32⟩
  | 122 => ⟨S128x32768, .i32⟩
  | 123 => ⟨S128x32768, .i32⟩
  | 124 => ⟨S128x32768, .i32⟩
  | 125 => ⟨S_, .i32⟩
  | 126 => ⟨S128x32768, .i32⟩
  | 127 => ⟨S128x32768, .i32⟩
  | _ => ⟨S128x32768, .f32⟩

abbrev hbmTy0_2 (i : Nat) : BufTy := match i % 128 with
  | 0 => ⟨S128x32768, .i32⟩
  | 1 => ⟨S_, .i32⟩
  | 2 => ⟨S128x32768, .i32⟩
  | 3 => ⟨S128x32768, .i32⟩
  | 4 => ⟨S_, .i32⟩
  | 5 => ⟨S128x32768, .i32⟩
  | 6 => ⟨S128x32768, .i32⟩
  | 7 => ⟨S128x32768, .f32⟩
  | 8 => ⟨S_, .f32⟩
  | 9 => ⟨S128x32768, .f32⟩
  | 10 => ⟨S128x32768, .f32⟩
  | 11 => ⟨S1x1, .f32⟩
  | 12 => ⟨S128x32768, .f32⟩
  | 13 => ⟨S128x32768, .f32⟩
  | 14 => ⟨S128x32768, .f32⟩
  | 15 => ⟨S128x32768, .f32⟩
  | 16 => ⟨S128x32768, .f32⟩
  | 17 => ⟨S128x32768, .f32⟩
  | 18 => ⟨S128x32768, .f32⟩
  | 19 => ⟨S128x32768, .f32⟩
  | 20 => ⟨S128x32768, .f32⟩
  | 21 => ⟨S128x32768, .f32⟩
  | 22 => ⟨S128x32768, .f32⟩
  | 23 => ⟨S_, .f32⟩
  | 24 => ⟨S128x32768, .f32⟩
  | 25 => ⟨S_, .f32⟩
  | 26 => ⟨S128x32768, .f32⟩
  | 27 => ⟨S_, .f32⟩
  | 28 => ⟨S128x32768, .f32⟩
  | 29 => ⟨S128x32768, .f32⟩
  | 30 => ⟨S_, .f32⟩
  | 31 => ⟨S128x32768, .f32⟩
  | 32 => ⟨S128x32768, .f32⟩
  | 33 => ⟨S128x32768, .f32⟩
  | 34 => ⟨S128x32768, .f32⟩
  | 35 => ⟨S_, .f32⟩
  | 36 => ⟨S128x32768, .f32⟩
  | 37 => ⟨S128x32768, .f32⟩
  | 38 => ⟨S_, .f32⟩
  | 39 => ⟨S128, .f32⟩
  | 40 => ⟨S_, .f32⟩
  | 41 => ⟨S128, .f32⟩
  | 42 => ⟨S128, .f32⟩
  | 43 => ⟨S128x1, .f32⟩
  | 44 => ⟨S128x32768, .f32⟩
  | 45 => ⟨S128x32768, .f32⟩
  | 46 => ⟨S128x32768, .f32⟩
  | 47 => ⟨S_, .f32⟩
  | 48 => ⟨S128, .f32⟩
  | 49 => ⟨S128x1, .f32⟩
  | 50 => ⟨S128x32768, .f32⟩
  | 51 => ⟨S128x32768, .f32⟩
  | 52 => ⟨S128x32768, .f32⟩
  | 53 => ⟨S_, .f32⟩
  | 54 => ⟨S128x32768, .f32⟩
  | 55 => ⟨S128x32768, .f32⟩
  | 56 => ⟨S_, .f32⟩
  | 57 => ⟨S128x32768, .f32⟩
  | 58 => ⟨S128x32768, .f32⟩
  | 59 => ⟨S128x32768, .f32⟩
  | 60 => ⟨S128x32768, .f32⟩
  | 61 => ⟨S_, .f32⟩
  | 62 => ⟨S128x32768, .f32⟩
  | 63 => ⟨S128x32768, .f32⟩
  | 64 => ⟨S_, .f32⟩
  | 65 => ⟨S128, .f32⟩
  | 66 => ⟨S_, .f32⟩
  | 67 => ⟨S128, .f32⟩
  | 68 => ⟨S128, .f32⟩
  | 69 => ⟨S128x1, .f32⟩
  | 70 => ⟨S128x32768, .f32⟩
  | 71 => ⟨S128x32768, .f32⟩
  | 72 => ⟨S128x32768, .f32⟩
  | 73 => ⟨S_, .f32⟩
  | 74 => ⟨S128, .f32⟩
  | 75 => ⟨S128x1, .f32⟩
  | 76 => ⟨S128x32768, .f32⟩
  | 77 => ⟨S128x32768, .f32⟩
  | 78 => ⟨S128x32768, .f32⟩
  | 79 => ⟨S_, .f32⟩
  | 80 => ⟨S128x32768, .f32⟩
  | 81 => ⟨S128x32768, .f32⟩
  | 82 => ⟨S_, .f32⟩
  | 83 => ⟨S128x32768, .f32⟩
  | 84 => ⟨S128x32768, .f32⟩
  | 85 => ⟨S128x32768, .f32⟩
  | 86 => ⟨S128x32768, .f32⟩
  | 87 => ⟨S_, .f32⟩
  | 88 => ⟨S128x32768, .f32⟩
  | 89 => ⟨S128x32768, .f32⟩
  | 90 => ⟨S_, .f32⟩
  | 91 => ⟨S128, .f32⟩
  | 92 => ⟨S_, .f32⟩
  | 93 => ⟨S128, .f32⟩
  | 94 => ⟨S128, .f32⟩
  | 95 => ⟨S128x1, .f32⟩
  | 96 => ⟨S128x32768, .f32⟩
  | 97 => ⟨S128x32768, .f32⟩
  | 98 => ⟨S128x32768, .f32⟩
  | 99 => ⟨S_, .f32⟩
  | 100 => ⟨S128, .f32⟩
  | 101 => ⟨S128x1, .f32⟩
  | 102 => ⟨S128x32768, .f32⟩
  | 103 => ⟨S128x32768, .f32⟩
  | 104 => ⟨S128x32768, .f32⟩
  | 105 => ⟨S_, .f32⟩
  | 106 => ⟨S128x32768, .f32⟩
  | 107 => ⟨S128x32768, .f32⟩
  | 108 => ⟨S_, .f32⟩
  | 109 => ⟨S128x32768, .f32⟩
  | 110 => ⟨S128x32768, .f32⟩
  | 111 => ⟨S128x32768, .f32⟩
  | 112 => ⟨S128x32768, .f32⟩
  | 113 => ⟨S_, .f32⟩
  | 114 => ⟨S128x32768, .f32⟩
  | 115 => ⟨S128x32768, .f32⟩
  | 116 => ⟨S_, .f32⟩
  | 117 => ⟨S128, .f32⟩
  | 118 => ⟨S_, .f32⟩
  | 119 => ⟨S128, .f32⟩
  | 120 => ⟨S128, .f32⟩
  | 121 => ⟨S128x1, .f32⟩
  | 122 => ⟨S128x32768, .f32⟩
  | 123 => ⟨S128x32768, .f32⟩
  | 124 => ⟨S128x32768, .f32⟩
  | 125 => ⟨S_, .f32⟩
  | 126 => ⟨S128, .f32⟩
  | 127 => ⟨S128x1, .f32⟩
  | _ => ⟨S128x32768, .f32⟩

abbrev hbmTy0_3 (i : Nat) : BufTy := match i % 128 with
  | 0 => ⟨S128x32768, .f32⟩
  | 1 => ⟨S128x32768, .f32⟩
  | 2 => ⟨S128x32768, .f32⟩
  | 3 => ⟨S_, .f32⟩
  | 4 => ⟨S128x32768, .f32⟩
  | 5 => ⟨S128x32768, .f32⟩
  | 6 => ⟨S_, .f32⟩
  | 7 => ⟨S128x32768, .f32⟩
  | 8 => ⟨S128x32768, .f32⟩
  | 9 => ⟨S128x32768, .f32⟩
  | 10 => ⟨S128x32768, .f32⟩
  | 11 => ⟨S_, .f32⟩
  | 12 => ⟨S128x32768, .f32⟩
  | 13 => ⟨S128x32768, .f32⟩
  | 14 => ⟨S_, .f32⟩
  | 15 => ⟨S128, .f32⟩
  | 16 => ⟨S_, .f32⟩
  | 17 => ⟨S128, .f32⟩
  | 18 => ⟨S128, .f32⟩
  | 19 => ⟨S128x1, .f32⟩
  | 20 => ⟨S128x32768, .f32⟩
  | 21 => ⟨S128x32768, .f32⟩
  | 22 => ⟨S128x32768, .f32⟩
  | 23 => ⟨S_, .f32⟩
  | 24 => ⟨S128, .f32⟩
  | 25 => ⟨S128x1, .f32⟩
  | 26 => ⟨S128x32768, .f32⟩
  | 27 => ⟨S128x32768, .f32⟩
  | 28 => ⟨S128x32768, .f32⟩
  | 29 => ⟨S_, .f32⟩
  | 30 => ⟨S128x32768, .f32⟩
  | 31 => ⟨S128x32768, .f32⟩
  | 32 => ⟨S_, .f32⟩
  | 33 => ⟨S128x32768, .f32⟩
  | 34 => ⟨S128x32768, .f32⟩
  | 35 => ⟨S128x32768, .f32⟩
  | 36 => ⟨S128x32768, .f32⟩
  | 37 => ⟨S_, .f32⟩
  | 38 => ⟨S128x32768, .f32⟩
  | 39 => ⟨S128x32768, .f32⟩
  | 40 => ⟨S_, .f32⟩
  | 41 => ⟨S128, .f32⟩
  | 42 => ⟨S_, .f32⟩
  | 43 => ⟨S128, .f32⟩
  | 44 => ⟨S128, .f32⟩
  | 45 => ⟨S128x1, .f32⟩
  | 46 => ⟨S128x32768, .f32⟩
  | 47 => ⟨S128x32768, .f32⟩
  | 48 => ⟨S128x32768, .f32⟩
  | 49 => ⟨S_, .f32⟩
  | 50 => ⟨S128, .f32⟩
  | 51 => ⟨S128x1, .f32⟩
  | 52 => ⟨S128x32768, .f32⟩
  | 53 => ⟨S128x32768, .f32⟩
  | 54 => ⟨S128x32768, .f32⟩
  | 55 => ⟨S_, .f32⟩
  | 56 => ⟨S128x32768, .f32⟩
  | 57 => ⟨S128x32768, .f32⟩
  | 58 => ⟨S_, .f32⟩
  | 59 => ⟨S128x32768, .f32⟩
  | 60 => ⟨S128x32768, .f32⟩
  | 61 => ⟨S128x32768, .f32⟩
  | 62 => ⟨S128x32768, .f32⟩
  | 63 => ⟨S_, .f32⟩
  | 64 => ⟨S128x32768, .f32⟩
  | 65 => ⟨S128x32768, .f32⟩
  | 66 => ⟨S_, .f32⟩
  | 67 => ⟨S128, .f32⟩
  | 68 => ⟨S_, .f32⟩
  | 69 => ⟨S128, .f32⟩
  | 70 => ⟨S128, .f32⟩
  | 71 => ⟨S128x1, .f32⟩
  | 72 => ⟨S128x32768, .f32⟩
  | 73 => ⟨S128x32768, .f32⟩
  | 74 => ⟨S128x32768, .f32⟩
  | 75 => ⟨S_, .f32⟩
  | 76 => ⟨S128, .f32⟩
  | 77 => ⟨S128x1, .f32⟩
  | 78 => ⟨S128x32768, .f32⟩
  | 79 => ⟨S128x32768, .f32⟩
  | 80 => ⟨S128x32768, .f32⟩
  | 81 => ⟨S_, .f32⟩
  | 82 => ⟨S128x32768, .f32⟩
  | 83 => ⟨S128x32768, .f32⟩
  | 84 => ⟨S_, .f32⟩
  | 85 => ⟨S128x32768, .f32⟩
  | 86 => ⟨S128x32768, .f32⟩
  | 87 => ⟨S128x32768, .f32⟩
  | 88 => ⟨S128x32768, .f32⟩
  | 89 => ⟨S_, .f32⟩
  | 90 => ⟨S128x32768, .f32⟩
  | 91 => ⟨S128x32768, .f32⟩
  | 92 => ⟨S_, .f32⟩
  | 93 => ⟨S128, .f32⟩
  | 94 => ⟨S_, .f32⟩
  | 95 => ⟨S128, .f32⟩
  | 96 => ⟨S128, .f32⟩
  | 97 => ⟨S128x1, .f32⟩
  | 98 => ⟨S128x32768, .f32⟩
  | 99 => ⟨S128x32768, .f32⟩
  | 100 => ⟨S128x32768, .f32⟩
  | 101 => ⟨S_, .f32⟩
  | 102 => ⟨S128, .f32⟩
  | 103 => ⟨S128x1, .f32⟩
  | 104 => ⟨S128x32768, .f32⟩
  | 105 => ⟨S128x32768, .f32⟩
  | 106 => ⟨S128x32768, .f32⟩
  | _ => ⟨S128x32768, .f32⟩

abbrev hbmTy (i : Nat) : BufTy := match i / 128 with
  | 0 => hbmTy0_0 i
  | 1 => hbmTy0_1 i
  | 2 => hbmTy0_2 i
  | 3 => hbmTy0_3 i
  | _ => ⟨S128x32768, .f32⟩

abbrev bufTy : (tb : Table) → Fin (tcTables nBuf tb) → BufTy
  | .hbm, ⟨i, _⟩ => hbmTy i
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_c_0 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_c_1 : Ref sig .tc := ⟨.hbm, 29, rfl⟩
abbrev main_call0_call0_v14 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_v17 : Ref sig .tc := ⟨.hbm, 33, rfl⟩
abbrev main_call0_call0_call0_v0 : Ref sig .tc := ⟨.hbm, 34, rfl⟩
abbrev main_call0_call0_call0_c : Ref sig .tc := ⟨.hbm, 35, rfl⟩
abbrev main_call0_call0_call0_v1 : Ref sig .tc := ⟨.hbm, 36, rfl⟩
abbrev main_call0_call0_call0_v2 : Ref sig .tc := ⟨.hbm, 37, rfl⟩
abbrev main_call0_call0_call0_v3 : Ref sig .tc := ⟨.hbm, 38, rfl⟩
abbrev main_call0_call0_call0_v4 : Ref sig .tc := ⟨.hbm, 39, rfl⟩
abbrev main_call0_call0_call0_v5 : Ref sig .tc := ⟨.hbm, 40, rfl⟩
abbrev main_call0_call0_call0_v6 : Ref sig .tc := ⟨.hbm, 41, rfl⟩
abbrev main_call0_call0_call0_c_0 : Ref sig .tc := ⟨.hbm, 42, rfl⟩
abbrev main_call0_call0_call0_v7 : Ref sig .tc := ⟨.hbm, 43, rfl⟩
abbrev main_call0_call0_call0_v8 : Ref sig .tc := ⟨.hbm, 44, rfl⟩
abbrev main_call0_call0_call0_c_1 : Ref sig .tc := ⟨.hbm, 45, rfl⟩
abbrev main_call0_call0_call0_v9 : Ref sig .tc := ⟨.hbm, 46, rfl⟩
abbrev main_call0_call0_call0_v10 : Ref sig .tc := ⟨.hbm, 47, rfl⟩
abbrev main_call0_call0_call0_v11 : Ref sig .tc := ⟨.hbm, 48, rfl⟩
abbrev main_call0_call0_call0_v12 : Ref sig .tc := ⟨.hbm, 49, rfl⟩
abbrev main_call0_call0_call0_v13 : Ref sig .tc := ⟨.hbm, 50, rfl⟩
abbrev main_call0_call0_call0_c_2 : Ref sig .tc := ⟨.hbm, 51, rfl⟩
abbrev main_call0_call0_call0_v14 : Ref sig .tc := ⟨.hbm, 52, rfl⟩
abbrev main_call0_call0_call0_v15 : Ref sig .tc := ⟨.hbm, 53, rfl⟩
abbrev main_call0_call0_call0_c_3 : Ref sig .tc := ⟨.hbm, 54, rfl⟩
abbrev main_call0_call0_call0_v16 : Ref sig .tc := ⟨.hbm, 55, rfl⟩
abbrev main_call0_call0_call0_v17 : Ref sig .tc := ⟨.hbm, 56, rfl⟩
abbrev main_call0_call0_call0_v18 : Ref sig .tc := ⟨.hbm, 57, rfl⟩
abbrev main_call0_call0_call0_v19 : Ref sig .tc := ⟨.hbm, 58, rfl⟩
abbrev main_call0_call0_call0_v20 : Ref sig .tc := ⟨.hbm, 59, rfl⟩
abbrev main_call0_call0_call0_c_4 : Ref sig .tc := ⟨.hbm, 60, rfl⟩
abbrev main_call0_call0_call0_v21 : Ref sig .tc := ⟨.hbm, 61, rfl⟩
abbrev main_call0_call0_call0_v22 : Ref sig .tc := ⟨.hbm, 62, rfl⟩
abbrev main_call0_call0_call0_c_5 : Ref sig .tc := ⟨.hbm, 63, rfl⟩
abbrev main_call0_call0_call0_v23 : Ref sig .tc := ⟨.hbm, 64, rfl⟩
abbrev main_call0_call0_call0_v24 : Ref sig .tc := ⟨.hbm, 65, rfl⟩
abbrev main_call0_call0_call0_v25 : Ref sig .tc := ⟨.hbm, 66, rfl⟩
abbrev main_call0_call0_call0_v26 : Ref sig .tc := ⟨.hbm, 67, rfl⟩
abbrev main_call0_call0_call0_v27 : Ref sig .tc := ⟨.hbm, 68, rfl⟩
abbrev main_call0_call0_call0_c_6 : Ref sig .tc := ⟨.hbm, 69, rfl⟩
abbrev main_call0_call0_call0_v28 : Ref sig .tc := ⟨.hbm, 70, rfl⟩
abbrev main_call0_call0_call0_v29 : Ref sig .tc := ⟨.hbm, 71, rfl⟩
abbrev main_call0_call0_call0_c_7 : Ref sig .tc := ⟨.hbm, 72, rfl⟩
abbrev main_call0_call0_call0_v30 : Ref sig .tc := ⟨.hbm, 73, rfl⟩
abbrev main_call0_call0_call0_v31 : Ref sig .tc := ⟨.hbm, 74, rfl⟩
abbrev main_call0_call0_call0_v32 : Ref sig .tc := ⟨.hbm, 75, rfl⟩
abbrev main_call0_call0_call0_v33 : Ref sig .tc := ⟨.hbm, 76, rfl⟩
abbrev main_call0_call0_call0_v34 : Ref sig .tc := ⟨.hbm, 77, rfl⟩
abbrev main_call0_call0_call0_v35 : Ref sig .tc := ⟨.hbm, 78, rfl⟩
abbrev main_call0_call0_call0_v36 : Ref sig .tc := ⟨.hbm, 79, rfl⟩
abbrev main_call0_call0_call0_v37 : Ref sig .tc := ⟨.hbm, 80, rfl⟩
abbrev main_call0_call0_call0_c_8 : Ref sig .tc := ⟨.hbm, 81, rfl⟩
abbrev main_call0_call0_call0_v38 : Ref sig .tc := ⟨.hbm, 82, rfl⟩
abbrev main_call0_call0_call0_v39 : Ref sig .tc := ⟨.hbm, 83, rfl⟩
abbrev main_call0_call0_call0_v40 : Ref sig .tc := ⟨.hbm, 84, rfl⟩
abbrev main_call0_call0_call0_c_9 : Ref sig .tc := ⟨.hbm, 85, rfl⟩
abbrev main_call0_call0_call0_v41 : Ref sig .tc := ⟨.hbm, 86, rfl⟩
abbrev main_call0_call0_call0_v42 : Ref sig .tc := ⟨.hbm, 87, rfl⟩
abbrev main_call0_call0_call0_c_10 : Ref sig .tc := ⟨.hbm, 88, rfl⟩
abbrev main_call0_call0_call0_v43 : Ref sig .tc := ⟨.hbm, 89, rfl⟩
abbrev main_call0_call0_call0_v44 : Ref sig .tc := ⟨.hbm, 90, rfl⟩
abbrev main_call0_call0_call0_v45 : Ref sig .tc := ⟨.hbm, 91, rfl⟩
abbrev main_call0_call0_call0_v46 : Ref sig .tc := ⟨.hbm, 92, rfl⟩
abbrev main_call0_call0_call0_v47 : Ref sig .tc := ⟨.hbm, 93, rfl⟩
abbrev main_call0_call0_call0_c_11 : Ref sig .tc := ⟨.hbm, 94, rfl⟩
abbrev main_call0_call0_call0_v48 : Ref sig .tc := ⟨.hbm, 95, rfl⟩
abbrev main_call0_call0_call0_v49 : Ref sig .tc := ⟨.hbm, 96, rfl⟩
abbrev main_call0_call0_call0_c_12 : Ref sig .tc := ⟨.hbm, 97, rfl⟩
abbrev main_call0_call0_call0_v50 : Ref sig .tc := ⟨.hbm, 98, rfl⟩
abbrev main_call0_call0_call0_v51 : Ref sig .tc := ⟨.hbm, 99, rfl⟩
abbrev main_call0_call0_call0_v52 : Ref sig .tc := ⟨.hbm, 100, rfl⟩
abbrev main_call0_call0_call0_v53 : Ref sig .tc := ⟨.hbm, 101, rfl⟩
abbrev main_call0_call0_call0_v54 : Ref sig .tc := ⟨.hbm, 102, rfl⟩
abbrev main_call0_call0_call0_c_13 : Ref sig .tc := ⟨.hbm, 103, rfl⟩
abbrev main_call0_call0_call0_v55 : Ref sig .tc := ⟨.hbm, 104, rfl⟩
abbrev main_call0_call0_call0_v56 : Ref sig .tc := ⟨.hbm, 105, rfl⟩
abbrev main_call0_call0_call0_c_14 : Ref sig .tc := ⟨.hbm, 106, rfl⟩
abbrev main_call0_call0_call0_v57 : Ref sig .tc := ⟨.hbm, 107, rfl⟩
abbrev main_call0_call0_call0_v58 : Ref sig .tc := ⟨.hbm, 108, rfl⟩
abbrev main_call0_call0_call0_v59 : Ref sig .tc := ⟨.hbm, 109, rfl⟩
abbrev main_call0_call0_call0_v60 : Ref sig .tc := ⟨.hbm, 110, rfl⟩
abbrev main_call0_call0_call0_v61 : Ref sig .tc := ⟨.hbm, 111, rfl⟩
abbrev main_call0_call0_call0_c_15 : Ref sig .tc := ⟨.hbm, 112, rfl⟩
abbrev main_call0_call0_call0_v62 : Ref sig .tc := ⟨.hbm, 113, rfl⟩
abbrev main_call0_call0_call0_v63 : Ref sig .tc := ⟨.hbm, 114, rfl⟩
abbrev main_call0_call0_call0_c_16 : Ref sig .tc := ⟨.hbm, 115, rfl⟩
abbrev main_call0_call0_call0_v64 : Ref sig .tc := ⟨.hbm, 116, rfl⟩
abbrev main_call0_call0_call0_v65 : Ref sig .tc := ⟨.hbm, 117, rfl⟩
abbrev main_call0_call0_call0_v66 : Ref sig .tc := ⟨.hbm, 118, rfl⟩
abbrev main_call0_call0_call0_v67 : Ref sig .tc := ⟨.hbm, 119, rfl⟩
abbrev main_call0_call0_call0_v68 : Ref sig .tc := ⟨.hbm, 120, rfl⟩
abbrev main_call0_call0_call0_v69 : Ref sig .tc := ⟨.hbm, 121, rfl⟩
abbrev main_call0_call0_call0_v70 : Ref sig .tc := ⟨.hbm, 122, rfl⟩
abbrev main_call0_call0_call0_v71 : Ref sig .tc := ⟨.hbm, 123, rfl⟩
abbrev main_call0_call0_call0_c_17 : Ref sig .tc := ⟨.hbm, 124, rfl⟩
abbrev main_call0_call0_call0_v72 : Ref sig .tc := ⟨.hbm, 125, rfl⟩
abbrev main_call0_call0_call0_v73 : Ref sig .tc := ⟨.hbm, 126, rfl⟩
abbrev main_call0_call0_call0_v74 : Ref sig .tc := ⟨.hbm, 127, rfl⟩
abbrev main_call0_call0_call0_c_18 : Ref sig .tc := ⟨.hbm, 128, rfl⟩
abbrev main_call0_call0_call0_v75 : Ref sig .tc := ⟨.hbm, 129, rfl⟩
abbrev main_call0_call0_call0_v76 : Ref sig .tc := ⟨.hbm, 130, rfl⟩
abbrev main_call0_call0_call0_c_19 : Ref sig .tc := ⟨.hbm, 131, rfl⟩
abbrev main_call0_call0_call0_v77 : Ref sig .tc := ⟨.hbm, 132, rfl⟩
abbrev main_call0_call0_call0_v78 : Ref sig .tc := ⟨.hbm, 133, rfl⟩
abbrev main_call0_call0_call0_v79 : Ref sig .tc := ⟨.hbm, 134, rfl⟩
abbrev main_call0_call0_call0_v80 : Ref sig .tc := ⟨.hbm, 135, rfl⟩
abbrev main_call0_call0_call0_v81 : Ref sig .tc := ⟨.hbm, 136, rfl⟩
abbrev main_call0_call0_call0_c_20 : Ref sig .tc := ⟨.hbm, 137, rfl⟩
abbrev main_call0_call0_call0_v82 : Ref sig .tc := ⟨.hbm, 138, rfl⟩
abbrev main_call0_call0_call0_v83 : Ref sig .tc := ⟨.hbm, 139, rfl⟩
abbrev main_call0_call0_call0_c_21 : Ref sig .tc := ⟨.hbm, 140, rfl⟩
abbrev main_call0_call0_call0_v84 : Ref sig .tc := ⟨.hbm, 141, rfl⟩
abbrev main_call0_call0_call0_v85 : Ref sig .tc := ⟨.hbm, 142, rfl⟩
abbrev main_call0_call0_call0_v86 : Ref sig .tc := ⟨.hbm, 143, rfl⟩
abbrev main_call0_call0_call0_v87 : Ref sig .tc := ⟨.hbm, 144, rfl⟩
abbrev main_call0_call0_call0_v88 : Ref sig .tc := ⟨.hbm, 145, rfl⟩
abbrev main_call0_call0_call0_c_22 : Ref sig .tc := ⟨.hbm, 146, rfl⟩
abbrev main_call0_call0_call0_v89 : Ref sig .tc := ⟨.hbm, 147, rfl⟩
abbrev main_call0_call0_call0_v90 : Ref sig .tc := ⟨.hbm, 148, rfl⟩
abbrev main_call0_call0_call0_c_23 : Ref sig .tc := ⟨.hbm, 149, rfl⟩
abbrev main_call0_call0_call0_v91 : Ref sig .tc := ⟨.hbm, 150, rfl⟩
abbrev main_call0_call0_call0_v92 : Ref sig .tc := ⟨.hbm, 151, rfl⟩
abbrev main_call0_call0_call0_v93 : Ref sig .tc := ⟨.hbm, 152, rfl⟩
abbrev main_call0_call0_call0_v94 : Ref sig .tc := ⟨.hbm, 153, rfl⟩
abbrev main_call0_call0_call0_v95 : Ref sig .tc := ⟨.hbm, 154, rfl⟩
abbrev main_call0_call0_call0_c_24 : Ref sig .tc := ⟨.hbm, 155, rfl⟩
abbrev main_call0_call0_call0_v96 : Ref sig .tc := ⟨.hbm, 156, rfl⟩
abbrev main_call0_call0_call0_v97 : Ref sig .tc := ⟨.hbm, 157, rfl⟩
abbrev main_call0_call0_call0_c_25 : Ref sig .tc := ⟨.hbm, 158, rfl⟩
abbrev main_call0_call0_call0_v98 : Ref sig .tc := ⟨.hbm, 159, rfl⟩
abbrev main_call0_call0_call0_v99 : Ref sig .tc := ⟨.hbm, 160, rfl⟩
abbrev main_call0_call0_call0_v100 : Ref sig .tc := ⟨.hbm, 161, rfl⟩
abbrev main_call0_call0_call0_v101 : Ref sig .tc := ⟨.hbm, 162, rfl⟩
abbrev main_call0_call0_call0_v102 : Ref sig .tc := ⟨.hbm, 163, rfl⟩
abbrev main_call0_call0_call0_v103 : Ref sig .tc := ⟨.hbm, 164, rfl⟩
abbrev main_call0_call0_call0_v104 : Ref sig .tc := ⟨.hbm, 165, rfl⟩
abbrev main_call0_call0_call0_v105 : Ref sig .tc := ⟨.hbm, 166, rfl⟩
abbrev main_call0_call0_call0_c_26 : Ref sig .tc := ⟨.hbm, 167, rfl⟩
abbrev main_call0_call0_call0_v106 : Ref sig .tc := ⟨.hbm, 168, rfl⟩
abbrev main_call0_call0_call0_v107 : Ref sig .tc := ⟨.hbm, 169, rfl⟩
abbrev main_call0_call0_call0_v108 : Ref sig .tc := ⟨.hbm, 170, rfl⟩
abbrev main_call0_call0_call0_c_27 : Ref sig .tc := ⟨.hbm, 171, rfl⟩
abbrev main_call0_call0_call0_v109 : Ref sig .tc := ⟨.hbm, 172, rfl⟩
abbrev main_call0_call0_call0_v110 : Ref sig .tc := ⟨.hbm, 173, rfl⟩
abbrev main_call0_call0_call0_c_28 : Ref sig .tc := ⟨.hbm, 174, rfl⟩
abbrev main_call0_call0_call0_v111 : Ref sig .tc := ⟨.hbm, 175, rfl⟩
abbrev main_call0_call0_call0_v112 : Ref sig .tc := ⟨.hbm, 176, rfl⟩
abbrev main_call0_call0_call0_v113 : Ref sig .tc := ⟨.hbm, 177, rfl⟩
abbrev main_call0_call0_call0_v114 : Ref sig .tc := ⟨.hbm, 178, rfl⟩
abbrev main_call0_call0_call0_v115 : Ref sig .tc := ⟨.hbm, 179, rfl⟩
abbrev main_call0_call0_call0_c_29 : Ref sig .tc := ⟨.hbm, 180, rfl⟩
abbrev main_call0_call0_call0_v116 : Ref sig .tc := ⟨.hbm, 181, rfl⟩
abbrev main_call0_call0_call0_v117 : Ref sig .tc := ⟨.hbm, 182, rfl⟩
abbrev main_call0_call0_call0_c_30 : Ref sig .tc := ⟨.hbm, 183, rfl⟩
abbrev main_call0_call0_call0_v118 : Ref sig .tc := ⟨.hbm, 184, rfl⟩
abbrev main_call0_call0_call0_v119 : Ref sig .tc := ⟨.hbm, 185, rfl⟩
abbrev main_call0_call0_call0_v120 : Ref sig .tc := ⟨.hbm, 186, rfl⟩
abbrev main_call0_call0_call0_v121 : Ref sig .tc := ⟨.hbm, 187, rfl⟩
abbrev main_call0_call0_call0_v122 : Ref sig .tc := ⟨.hbm, 188, rfl⟩
abbrev main_call0_call0_call0_c_31 : Ref sig .tc := ⟨.hbm, 189, rfl⟩
abbrev main_call0_call0_call0_v123 : Ref sig .tc := ⟨.hbm, 190, rfl⟩
abbrev main_call0_call0_call0_v124 : Ref sig .tc := ⟨.hbm, 191, rfl⟩
abbrev main_call0_call0_call0_c_32 : Ref sig .tc := ⟨.hbm, 192, rfl⟩
abbrev main_call0_call0_call0_v125 : Ref sig .tc := ⟨.hbm, 193, rfl⟩
abbrev main_call0_call0_call0_v126 : Ref sig .tc := ⟨.hbm, 194, rfl⟩
abbrev main_call0_call0_call0_v127 : Ref sig .tc := ⟨.hbm, 195, rfl⟩
abbrev main_call0_call0_call0_v128 : Ref sig .tc := ⟨.hbm, 196, rfl⟩
abbrev main_call0_call0_call0_v129 : Ref sig .tc := ⟨.hbm, 197, rfl⟩
abbrev main_call0_call0_call0_c_33 : Ref sig .tc := ⟨.hbm, 198, rfl⟩
abbrev main_call0_call0_call0_v130 : Ref sig .tc := ⟨.hbm, 199, rfl⟩
abbrev main_call0_call0_call0_v131 : Ref sig .tc := ⟨.hbm, 200, rfl⟩
abbrev main_call0_call0_call0_c_34 : Ref sig .tc := ⟨.hbm, 201, rfl⟩
abbrev main_call0_call0_call0_v132 : Ref sig .tc := ⟨.hbm, 202, rfl⟩
abbrev main_call0_call0_call0_v133 : Ref sig .tc := ⟨.hbm, 203, rfl⟩
abbrev main_call0_call0_call0_v134 : Ref sig .tc := ⟨.hbm, 204, rfl⟩
abbrev main_call0_call0_call0_v135 : Ref sig .tc := ⟨.hbm, 205, rfl⟩
abbrev main_call0_call0_call0_v136 : Ref sig .tc := ⟨.hbm, 206, rfl⟩
abbrev main_call0_call0_call0_v137 : Ref sig .tc := ⟨.hbm, 207, rfl⟩
abbrev main_call0_call0_call0_v138 : Ref sig .tc := ⟨.hbm, 208, rfl⟩
abbrev main_call0_call0_call0_v139 : Ref sig .tc := ⟨.hbm, 209, rfl⟩
abbrev main_call0_call0_call0_c_35 : Ref sig .tc := ⟨.hbm, 210, rfl⟩
abbrev main_call0_call0_call0_v140 : Ref sig .tc := ⟨.hbm, 211, rfl⟩
abbrev main_call0_call0_call0_v141 : Ref sig .tc := ⟨.hbm, 212, rfl⟩
abbrev main_call0_call0_call0_v142 : Ref sig .tc := ⟨.hbm, 213, rfl⟩
abbrev main_call0_call0_call0_c_36 : Ref sig .tc := ⟨.hbm, 214, rfl⟩
abbrev main_call0_call0_call0_v143 : Ref sig .tc := ⟨.hbm, 215, rfl⟩
abbrev main_call0_call0_call0_v144 : Ref sig .tc := ⟨.hbm, 216, rfl⟩
abbrev main_call0_call0_call0_c_37 : Ref sig .tc := ⟨.hbm, 217, rfl⟩
abbrev main_call0_call0_call0_v145 : Ref sig .tc := ⟨.hbm, 218, rfl⟩
abbrev main_call0_call0_call0_v146 : Ref sig .tc := ⟨.hbm, 219, rfl⟩
abbrev main_call0_call0_call0_v147 : Ref sig .tc := ⟨.hbm, 220, rfl⟩
abbrev main_call0_call0_call0_v148 : Ref sig .tc := ⟨.hbm, 221, rfl⟩
abbrev main_call0_call0_call0_v149 : Ref sig .tc := ⟨.hbm, 222, rfl⟩
abbrev main_call0_call0_call0_c_38 : Ref sig .tc := ⟨.hbm, 223, rfl⟩
abbrev main_call0_call0_call0_v150 : Ref sig .tc := ⟨.hbm, 224, rfl⟩
abbrev main_call0_call0_call0_v151 : Ref sig .tc := ⟨.hbm, 225, rfl⟩
abbrev main_call0_call0_call0_c_39 : Ref sig .tc := ⟨.hbm, 226, rfl⟩
abbrev main_call0_call0_call0_v152 : Ref sig .tc := ⟨.hbm, 227, rfl⟩
abbrev main_call0_call0_call0_v153 : Ref sig .tc := ⟨.hbm, 228, rfl⟩
abbrev main_call0_call0_call0_v154 : Ref sig .tc := ⟨.hbm, 229, rfl⟩
abbrev main_call0_call0_call0_v155 : Ref sig .tc := ⟨.hbm, 230, rfl⟩
abbrev main_call0_call0_call0_v156 : Ref sig .tc := ⟨.hbm, 231, rfl⟩
abbrev main_call0_call0_call0_c_40 : Ref sig .tc := ⟨.hbm, 232, rfl⟩
abbrev main_call0_call0_call0_v157 : Ref sig .tc := ⟨.hbm, 233, rfl⟩
abbrev main_call0_call0_call0_v158 : Ref sig .tc := ⟨.hbm, 234, rfl⟩
abbrev main_call0_call0_call0_c_41 : Ref sig .tc := ⟨.hbm, 235, rfl⟩
abbrev main_call0_call0_call0_v159 : Ref sig .tc := ⟨.hbm, 236, rfl⟩
abbrev main_call0_call0_call0_v160 : Ref sig .tc := ⟨.hbm, 237, rfl⟩
abbrev main_call0_call0_call0_v161 : Ref sig .tc := ⟨.hbm, 238, rfl⟩
abbrev main_call0_call0_call0_v162 : Ref sig .tc := ⟨.hbm, 239, rfl⟩
abbrev main_call0_call0_call0_v163 : Ref sig .tc := ⟨.hbm, 240, rfl⟩
abbrev main_call0_call0_call0_c_42 : Ref sig .tc := ⟨.hbm, 241, rfl⟩
abbrev main_call0_call0_call0_v164 : Ref sig .tc := ⟨.hbm, 242, rfl⟩
abbrev main_call0_call0_call0_v165 : Ref sig .tc := ⟨.hbm, 243, rfl⟩
abbrev main_call0_call0_call0_c_43 : Ref sig .tc := ⟨.hbm, 244, rfl⟩
abbrev main_call0_call0_call0_v166 : Ref sig .tc := ⟨.hbm, 245, rfl⟩
abbrev main_call0_call0_call0_v167 : Ref sig .tc := ⟨.hbm, 246, rfl⟩
abbrev main_call0_call0_call0_v168 : Ref sig .tc := ⟨.hbm, 247, rfl⟩
abbrev main_call0_call0_call0_v169 : Ref sig .tc := ⟨.hbm, 248, rfl⟩
abbrev main_call0_call0_call0_v170 : Ref sig .tc := ⟨.hbm, 249, rfl⟩
abbrev main_call0_call0_v18_0 : Ref sig .tc := ⟨.hbm, 250, rfl⟩
abbrev main_call0_call0_call0_v172 : Ref sig .tc := ⟨.hbm, 251, rfl⟩
abbrev main_call0_call0_call0_v173 : Ref sig .tc := ⟨.hbm, 252, rfl⟩
abbrev main_call0_call0_call0_c_44 : Ref sig .tc := ⟨.hbm, 253, rfl⟩
abbrev main_call0_call0_call0_v174 : Ref sig .tc := ⟨.hbm, 254, rfl⟩
abbrev main_call0_call0_v18_1 : Ref sig .tc := ⟨.hbm, 255, rfl⟩
abbrev main_call0_call0_v19 : Ref sig .tc := ⟨.hbm, 256, rfl⟩
abbrev main_call0_call0_c_2 : Ref sig .tc := ⟨.hbm, 257, rfl⟩
abbrev main_call0_call0_v20 : Ref sig .tc := ⟨.hbm, 258, rfl⟩
abbrev main_call0_call0_v21 : Ref sig .tc := ⟨.hbm, 259, rfl⟩
abbrev main_call0_call0_c_3 : Ref sig .tc := ⟨.hbm, 260, rfl⟩
abbrev main_call0_call0_v22 : Ref sig .tc := ⟨.hbm, 261, rfl⟩
abbrev main_call0_call0_v23 : Ref sig .tc := ⟨.hbm, 262, rfl⟩
abbrev main_call0_call0_v24 : Ref sig .tc := ⟨.hbm, 263, rfl⟩
abbrev main_call0_call0_cst : Ref sig .tc := ⟨.hbm, 264, rfl⟩
abbrev main_call0_call0_v25 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_call0_v30 : Ref sig .tc := ⟨.hbm, 270, rfl⟩
abbrev main_call0_call0_v31 : Ref sig .tc := ⟨.hbm, 271, rfl⟩
abbrev main_call0_call0_v32 : Ref sig .tc := ⟨.hbm, 272, rfl⟩
abbrev main_call0_v0 : Ref sig .tc := ⟨.hbm, 273, rfl⟩
abbrev main_call0_v1 : Ref sig .tc := ⟨.hbm, 274, rfl⟩
abbrev main_call0_v2 : Ref sig .tc := ⟨.hbm, 275, rfl⟩
abbrev main_call0_v3 : Ref sig .tc := ⟨.hbm, 276, rfl⟩
abbrev main_v7 : Ref sig .tc := ⟨.hbm, 277, rfl⟩
abbrev main_v8 : Ref sig .tc := ⟨.hbm, 278, rfl⟩
abbrev main_cst : Ref sig .tc := ⟨.hbm, 279, rfl⟩
abbrev main_v9 : Ref sig .tc := ⟨.hbm, 280, rfl⟩
abbrev main_cst_2 : Ref sig .tc := ⟨.hbm, 281, rfl⟩
abbrev main_v10 : Ref sig .tc := ⟨.hbm, 282, rfl⟩
abbrev main_cst_3 : Ref sig .tc := ⟨.hbm, 283, rfl⟩
abbrev main_v11 : Ref sig .tc := ⟨.hbm, 284, rfl⟩
abbrev main_v12 : Ref sig .tc := ⟨.hbm, 285, rfl⟩
abbrev main_cst_4 : Ref sig .tc := ⟨.hbm, 286, rfl⟩
abbrev main_v13 : Ref sig .tc := ⟨.hbm, 287, rfl⟩
abbrev main_v14 : Ref sig .tc := ⟨.hbm, 288, rfl⟩
abbrev main_v15 : Ref sig .tc := ⟨.hbm, 289, rfl⟩
abbrev main_v16 : Ref sig .tc := ⟨.hbm, 290, rfl⟩
abbrev main_cst_5 : Ref sig .tc := ⟨.hbm, 291, rfl⟩
abbrev main_v17 : Ref sig .tc := ⟨.hbm, 292, rfl⟩
abbrev main_v18 : Ref sig .tc := ⟨.hbm, 293, rfl⟩
abbrev main_cst_6 : Ref sig .tc := ⟨.hbm, 294, rfl⟩
abbrev main_v19 : Ref sig .tc := ⟨.hbm, 295, rfl⟩
abbrev main_cst_7 : Ref sig .tc := ⟨.hbm, 296, rfl⟩
abbrev main_v20 : Ref sig .tc := ⟨.hbm, 297, rfl⟩
abbrev main_v21 : Ref sig .tc := ⟨.hbm, 298, rfl⟩
abbrev main_v22 : Ref sig .tc := ⟨.hbm, 299, rfl⟩
abbrev main_v23 : Ref sig .tc := ⟨.hbm, 300, rfl⟩
abbrev main_v24 : Ref sig .tc := ⟨.hbm, 301, rfl⟩
abbrev main_v25 : Ref sig .tc := ⟨.hbm, 302, rfl⟩
abbrev main_cst_8 : Ref sig .tc := ⟨.hbm, 303, rfl⟩
abbrev main_v26 : Ref sig .tc := ⟨.hbm, 304, rfl⟩
abbrev main_v27 : Ref sig .tc := ⟨.hbm, 305, rfl⟩
abbrev main_v28 : Ref sig .tc := ⟨.hbm, 306, rfl⟩
abbrev main_v29 : Ref sig .tc := ⟨.hbm, 307, rfl⟩
abbrev main_v30 : Ref sig .tc := ⟨.hbm, 308, rfl⟩
abbrev main_cst_9 : Ref sig .tc := ⟨.hbm, 309, rfl⟩
abbrev main_v31 : Ref sig .tc := ⟨.hbm, 310, rfl⟩
abbrev main_v32 : Ref sig .tc := ⟨.hbm, 311, rfl⟩
abbrev main_cst_10 : Ref sig .tc := ⟨.hbm, 312, rfl⟩
abbrev main_v33 : Ref sig .tc := ⟨.hbm, 313, rfl⟩
abbrev main_v34 : Ref sig .tc := ⟨.hbm, 314, rfl⟩
abbrev main_v35 : Ref sig .tc := ⟨.hbm, 315, rfl⟩
abbrev main_v36 : Ref sig .tc := ⟨.hbm, 316, rfl⟩
abbrev main_cst_11 : Ref sig .tc := ⟨.hbm, 317, rfl⟩
abbrev main_v37 : Ref sig .tc := ⟨.hbm, 318, rfl⟩
abbrev main_v38 : Ref sig .tc := ⟨.hbm, 319, rfl⟩
abbrev main_cst_12 : Ref sig .tc := ⟨.hbm, 320, rfl⟩
abbrev main_v39 : Ref sig .tc := ⟨.hbm, 321, rfl⟩
abbrev main_cst_13 : Ref sig .tc := ⟨.hbm, 322, rfl⟩
abbrev main_v40 : Ref sig .tc := ⟨.hbm, 323, rfl⟩
abbrev main_v41 : Ref sig .tc := ⟨.hbm, 324, rfl⟩
abbrev main_v42 : Ref sig .tc := ⟨.hbm, 325, rfl⟩
abbrev main_v43 : Ref sig .tc := ⟨.hbm, 326, rfl⟩
abbrev main_v44 : Ref sig .tc := ⟨.hbm, 327, rfl⟩
abbrev main_v45 : Ref sig .tc := ⟨.hbm, 328, rfl⟩
abbrev main_cst_14 : Ref sig .tc := ⟨.hbm, 329, rfl⟩
abbrev main_v46 : Ref sig .tc := ⟨.hbm, 330, rfl⟩
abbrev main_v47 : Ref sig .tc := ⟨.hbm, 331, rfl⟩
abbrev main_v48 : Ref sig .tc := ⟨.hbm, 332, rfl⟩
abbrev main_v49 : Ref sig .tc := ⟨.hbm, 333, rfl⟩
abbrev main_v50 : Ref sig .tc := ⟨.hbm, 334, rfl⟩
abbrev main_cst_15 : Ref sig .tc := ⟨.hbm, 335, rfl⟩
abbrev main_v51 : Ref sig .tc := ⟨.hbm, 336, rfl⟩
abbrev main_v52 : Ref sig .tc := ⟨.hbm, 337, rfl⟩
abbrev main_cst_16 : Ref sig .tc := ⟨.hbm, 338, rfl⟩
abbrev main_v53 : Ref sig .tc := ⟨.hbm, 339, rfl⟩
abbrev main_v54 : Ref sig .tc := ⟨.hbm, 340, rfl⟩
abbrev main_v55 : Ref sig .tc := ⟨.hbm, 341, rfl⟩
abbrev main_v56 : Ref sig .tc := ⟨.hbm, 342, rfl⟩
abbrev main_cst_17 : Ref sig .tc := ⟨.hbm, 343, rfl⟩
abbrev main_v57 : Ref sig .tc := ⟨.hbm, 344, rfl⟩
abbrev main_v58 : Ref sig .tc := ⟨.hbm, 345, rfl⟩
abbrev main_cst_18 : Ref sig .tc := ⟨.hbm, 346, rfl⟩
abbrev main_v59 : Ref sig .tc := ⟨.hbm, 347, rfl⟩
abbrev main_cst_19 : Ref sig .tc := ⟨.hbm, 348, rfl⟩
abbrev main_v60 : Ref sig .tc := ⟨.hbm, 349, rfl⟩
abbrev main_v61 : Ref sig .tc := ⟨.hbm, 350, rfl⟩
abbrev main_v62 : Ref sig .tc := ⟨.hbm, 351, rfl⟩
abbrev main_v63 : Ref sig .tc := ⟨.hbm, 352, rfl⟩
abbrev main_v64 : Ref sig .tc := ⟨.hbm, 353, rfl⟩
abbrev main_v65 : Ref sig .tc := ⟨.hbm, 354, rfl⟩
abbrev main_cst_20 : Ref sig .tc := ⟨.hbm, 355, rfl⟩
abbrev main_v66 : Ref sig .tc := ⟨.hbm, 356, rfl⟩
abbrev main_v67 : Ref sig .tc := ⟨.hbm, 357, rfl⟩
abbrev main_v68 : Ref sig .tc := ⟨.hbm, 358, rfl⟩
abbrev main_v69 : Ref sig .tc := ⟨.hbm, 359, rfl⟩
abbrev main_v70 : Ref sig .tc := ⟨.hbm, 360, rfl⟩
abbrev main_cst_21 : Ref sig .tc := ⟨.hbm, 361, rfl⟩
abbrev main_v71 : Ref sig .tc := ⟨.hbm, 362, rfl⟩
abbrev main_v72 : Ref sig .tc := ⟨.hbm, 363, rfl⟩
abbrev main_cst_22 : Ref sig .tc := ⟨.hbm, 364, rfl⟩
abbrev main_v73 : Ref sig .tc := ⟨.hbm, 365, rfl⟩
abbrev main_v74 : Ref sig .tc := ⟨.hbm, 366, rfl⟩
abbrev main_v75 : Ref sig .tc := ⟨.hbm, 367, rfl⟩
abbrev main_v76 : Ref sig .tc := ⟨.hbm, 368, rfl⟩
abbrev main_cst_23 : Ref sig .tc := ⟨.hbm, 369, rfl⟩
abbrev main_v77 : Ref sig .tc := ⟨.hbm, 370, rfl⟩
abbrev main_v78 : Ref sig .tc := ⟨.hbm, 371, rfl⟩
abbrev main_cst_24 : Ref sig .tc := ⟨.hbm, 372, rfl⟩
abbrev main_v79 : Ref sig .tc := ⟨.hbm, 373, rfl⟩
abbrev main_cst_25 : Ref sig .tc := ⟨.hbm, 374, rfl⟩
abbrev main_v80 : Ref sig .tc := ⟨.hbm, 375, rfl⟩
abbrev main_v81 : Ref sig .tc := ⟨.hbm, 376, rfl⟩
abbrev main_v82 : Ref sig .tc := ⟨.hbm, 377, rfl⟩
abbrev main_v83 : Ref sig .tc := ⟨.hbm, 378, rfl⟩
abbrev main_v84 : Ref sig .tc := ⟨.hbm, 379, rfl⟩
abbrev main_v85 : Ref sig .tc := ⟨.hbm, 380, rfl⟩
abbrev main_cst_26 : Ref sig .tc := ⟨.hbm, 381, rfl⟩
abbrev main_v86 : Ref sig .tc := ⟨.hbm, 382, rfl⟩
abbrev main_v87 : Ref sig .tc := ⟨.hbm, 383, rfl⟩
abbrev main_v88 : Ref sig .tc := ⟨.hbm, 384, rfl⟩
abbrev main_v89 : Ref sig .tc := ⟨.hbm, 385, rfl⟩
abbrev main_v90 : Ref sig .tc := ⟨.hbm, 386, rfl⟩
abbrev main_cst_27 : Ref sig .tc := ⟨.hbm, 387, rfl⟩
abbrev main_v91 : Ref sig .tc := ⟨.hbm, 388, rfl⟩
abbrev main_v92 : Ref sig .tc := ⟨.hbm, 389, rfl⟩
abbrev main_cst_28 : Ref sig .tc := ⟨.hbm, 390, rfl⟩
abbrev main_v93 : Ref sig .tc := ⟨.hbm, 391, rfl⟩
abbrev main_v94 : Ref sig .tc := ⟨.hbm, 392, rfl⟩
abbrev main_v95 : Ref sig .tc := ⟨.hbm, 393, rfl⟩
abbrev main_v96 : Ref sig .tc := ⟨.hbm, 394, rfl⟩
abbrev main_cst_29 : Ref sig .tc := ⟨.hbm, 395, rfl⟩
abbrev main_v97 : Ref sig .tc := ⟨.hbm, 396, rfl⟩
abbrev main_v98 : Ref sig .tc := ⟨.hbm, 397, rfl⟩
abbrev main_cst_30 : Ref sig .tc := ⟨.hbm, 398, rfl⟩
abbrev main_v99 : Ref sig .tc := ⟨.hbm, 399, rfl⟩
abbrev main_cst_31 : Ref sig .tc := ⟨.hbm, 400, rfl⟩
abbrev main_v100 : Ref sig .tc := ⟨.hbm, 401, rfl⟩
abbrev main_v101 : Ref sig .tc := ⟨.hbm, 402, rfl⟩
abbrev main_v102 : Ref sig .tc := ⟨.hbm, 403, rfl⟩
abbrev main_v103 : Ref sig .tc := ⟨.hbm, 404, rfl⟩
abbrev main_v104 : Ref sig .tc := ⟨.hbm, 405, rfl⟩
abbrev main_v105 : Ref sig .tc := ⟨.hbm, 406, rfl⟩
abbrev main_cst_32 : Ref sig .tc := ⟨.hbm, 407, rfl⟩
abbrev main_v106 : Ref sig .tc := ⟨.hbm, 408, rfl⟩
abbrev main_v107 : Ref sig .tc := ⟨.hbm, 409, rfl⟩
abbrev main_v108 : Ref sig .tc := ⟨.hbm, 410, rfl⟩
abbrev main_v109 : Ref sig .tc := ⟨.hbm, 411, rfl⟩
abbrev main_v110 : Ref sig .tc := ⟨.hbm, 412, rfl⟩
abbrev main_cst_33 : Ref sig .tc := ⟨.hbm, 413, rfl⟩
abbrev main_v111 : Ref sig .tc := ⟨.hbm, 414, rfl⟩
abbrev main_v112 : Ref sig .tc := ⟨.hbm, 415, rfl⟩
abbrev main_cst_34 : Ref sig .tc := ⟨.hbm, 416, rfl⟩
abbrev main_v113 : Ref sig .tc := ⟨.hbm, 417, rfl⟩
abbrev main_v114 : Ref sig .tc := ⟨.hbm, 418, rfl⟩
abbrev main_v115 : Ref sig .tc := ⟨.hbm, 419, rfl⟩
abbrev main_v116 : Ref sig .tc := ⟨.hbm, 420, rfl⟩
abbrev main_cst_35 : Ref sig .tc := ⟨.hbm, 421, rfl⟩
abbrev main_v117 : Ref sig .tc := ⟨.hbm, 422, rfl⟩
abbrev main_v118 : Ref sig .tc := ⟨.hbm, 423, rfl⟩
abbrev main_cst_36 : Ref sig .tc := ⟨.hbm, 424, rfl⟩
abbrev main_v119 : Ref sig .tc := ⟨.hbm, 425, rfl⟩
abbrev main_cst_37 : Ref sig .tc := ⟨.hbm, 426, rfl⟩
abbrev main_v120 : Ref sig .tc := ⟨.hbm, 427, rfl⟩
abbrev main_v121 : Ref sig .tc := ⟨.hbm, 428, rfl⟩
abbrev main_v122 : Ref sig .tc := ⟨.hbm, 429, rfl⟩
abbrev main_v123 : Ref sig .tc := ⟨.hbm, 430, rfl⟩
abbrev main_v124 : Ref sig .tc := ⟨.hbm, 431, rfl⟩
abbrev main_v125 : Ref sig .tc := ⟨.hbm, 432, rfl⟩
abbrev main_cst_38 : Ref sig .tc := ⟨.hbm, 433, rfl⟩
abbrev main_v126 : Ref sig .tc := ⟨.hbm, 434, rfl⟩
abbrev main_v127 : Ref sig .tc := ⟨.hbm, 435, rfl⟩
abbrev main_v128 : Ref sig .tc := ⟨.hbm, 436, rfl⟩
abbrev main_v129 : Ref sig .tc := ⟨.hbm, 437, rfl⟩
abbrev main_v130 : Ref sig .tc := ⟨.hbm, 438, rfl⟩
abbrev main_cst_39 : Ref sig .tc := ⟨.hbm, 439, rfl⟩
abbrev main_v131 : Ref sig .tc := ⟨.hbm, 440, rfl⟩
abbrev main_v132 : Ref sig .tc := ⟨.hbm, 441, rfl⟩
abbrev main_cst_40 : Ref sig .tc := ⟨.hbm, 442, rfl⟩
abbrev main_v133 : Ref sig .tc := ⟨.hbm, 443, rfl⟩
abbrev main_v134 : Ref sig .tc := ⟨.hbm, 444, rfl⟩
abbrev main_v135 : Ref sig .tc := ⟨.hbm, 445, rfl⟩
abbrev main_v136 : Ref sig .tc := ⟨.hbm, 446, rfl⟩
abbrev main_cst_41 : Ref sig .tc := ⟨.hbm, 447, rfl⟩
abbrev main_v137 : Ref sig .tc := ⟨.hbm, 448, rfl⟩
abbrev main_v138 : Ref sig .tc := ⟨.hbm, 449, rfl⟩
abbrev main_cst_42 : Ref sig .tc := ⟨.hbm, 450, rfl⟩
abbrev main_v139 : Ref sig .tc := ⟨.hbm, 451, rfl⟩
abbrev main_cst_43 : Ref sig .tc := ⟨.hbm, 452, rfl⟩
abbrev main_v140 : Ref sig .tc := ⟨.hbm, 453, rfl⟩
abbrev main_v141 : Ref sig .tc := ⟨.hbm, 454, rfl⟩
abbrev main_v142 : Ref sig .tc := ⟨.hbm, 455, rfl⟩
abbrev main_v143 : Ref sig .tc := ⟨.hbm, 456, rfl⟩
abbrev main_v144 : Ref sig .tc := ⟨.hbm, 457, rfl⟩
abbrev main_v145 : Ref sig .tc := ⟨.hbm, 458, rfl⟩
abbrev main_cst_44 : Ref sig .tc := ⟨.hbm, 459, rfl⟩
abbrev main_v146 : Ref sig .tc := ⟨.hbm, 460, rfl⟩
abbrev main_v147 : Ref sig .tc := ⟨.hbm, 461, rfl⟩
abbrev main_v148 : Ref sig .tc := ⟨.hbm, 462, rfl⟩
abbrev main_v149 : Ref sig .tc := ⟨.hbm, 463, rfl⟩
abbrev main_v150 : Ref sig .tc := ⟨.hbm, 464, rfl⟩
abbrev main_cst_45 : Ref sig .tc := ⟨.hbm, 465, rfl⟩
abbrev main_v151 : Ref sig .tc := ⟨.hbm, 466, rfl⟩
abbrev main_v152 : Ref sig .tc := ⟨.hbm, 467, rfl⟩
abbrev main_cst_46 : Ref sig .tc := ⟨.hbm, 468, rfl⟩
abbrev main_v153 : Ref sig .tc := ⟨.hbm, 469, rfl⟩
abbrev main_v154 : Ref sig .tc := ⟨.hbm, 470, rfl⟩
abbrev main_v155 : Ref sig .tc := ⟨.hbm, 471, rfl⟩
abbrev main_v156 : Ref sig .tc := ⟨.hbm, 472, rfl⟩
abbrev main_cst_47 : Ref sig .tc := ⟨.hbm, 473, rfl⟩
abbrev main_v157 : Ref sig .tc := ⟨.hbm, 474, rfl⟩
abbrev main_v158 : Ref sig .tc := ⟨.hbm, 475, rfl⟩
abbrev main_cst_48 : Ref sig .tc := ⟨.hbm, 476, rfl⟩
abbrev main_v159 : Ref sig .tc := ⟨.hbm, 477, rfl⟩
abbrev main_cst_49 : Ref sig .tc := ⟨.hbm, 478, rfl⟩
abbrev main_v160 : Ref sig .tc := ⟨.hbm, 479, rfl⟩
abbrev main_v161 : Ref sig .tc := ⟨.hbm, 480, rfl⟩
abbrev main_v162 : Ref sig .tc := ⟨.hbm, 481, rfl⟩
abbrev main_v163 : Ref sig .tc := ⟨.hbm, 482, rfl⟩
abbrev main_v164 : Ref sig .tc := ⟨.hbm, 483, rfl⟩
abbrev main_v165 : Ref sig .tc := ⟨.hbm, 484, rfl⟩
abbrev main_cst_50 : Ref sig .tc := ⟨.hbm, 485, rfl⟩
abbrev main_v166 : Ref sig .tc := ⟨.hbm, 486, rfl⟩
abbrev main_v167 : Ref sig .tc := ⟨.hbm, 487, rfl⟩
abbrev main_v168 : Ref sig .tc := ⟨.hbm, 488, rfl⟩
abbrev main_v169 : Ref sig .tc := ⟨.hbm, 489, rfl⟩
abbrev main_v170 : Ref sig .tc := ⟨.hbm, 490, rfl⟩

abbrev nD : Nat := 1
abbrev τ : Topo := Topo.v7x

variable {F : FTy → Type} [FloatOps F]
-- ==== Proof.Settle.lean ====
/- A straight line of host operations in which every buffer is written once, and every operand before it is read.
   Running such a line to its end leaves a valuation that SATISFIES every operation of it: the buffer an operation
   writes holds, at the end, the operation's function of what its operands hold at the end. So a proof about the line
   never walks through the valuations in between: it reads off one equation per operation, all of one valuation. -/
module

public import Idealize.ShloMosaic.Lib.StableHlo.RunHlo
public import Idealize.ShloMosaic.PureOps

@[expose] public section

noncomputable section

namespace Cert.Settle

open Idealize.ShloMosaic Idealize.SL.Sem

variable {τ : Topo} {sig : RefSig} {Val : EltTy → Type}

/-- The place of a buffer among those of its memory space: the printer numbers buffers in the order of the program. -/
def place (r : Ref sig .tc) : ℕ := r.idx.val

/-- `op` writes the buffer `y` and nothing else, its result read at buffers placed before `y` only. -/
structure Fresh (op : HloOp τ sig Val) (y : Ref sig .tc) : Prop where
  writes : op.writes = {Proc.devRef .tc y}
  reads : ∀ F G : Valuation τ sig Val,
    (∀ x : Ref sig .tc, place x < place y → F (Proc.devRef .tc x) = G (Proc.devRef .tc x)) →
      op.result F (Proc.devRef .tc y) = op.result G (Proc.devRef .tc y)
  scope : op.bufs ⊆ StableHlo.tcRefs τ sig
  decided : op.fresh = ∅

/-- The line `ops` writes buffers placed at `n` or later, each placed after all those written and read before. -/
inductive Rising : ℕ → List (HloOp τ sig Val) → Prop
  | nil (n : ℕ) : Rising n []
  | cons {n : ℕ} {op : HloOp τ sig Val} {ops : List (HloOp τ sig Val)} (y : Ref sig .tc) (hn : n ≤ place y)
      (hop : Fresh op y) (h : Rising (place y + 1) ops) : Rising n (op :: ops)

section Builders

variable {n : ℕ} {ops : List (HloOp τ sig Val)} {x a b y : Ref sig .tc}

theorem Rising.nullary (v : y.ty.Contents Val) (hy) (hn : n ≤ place y) (h : Rising (place y + 1) ops) :
    Rising n (StableHlo.nullary (τ := τ) y v hy :: ops) :=
  .cons y hn ⟨StableHlo.nullary_writes .., fun F G _ => by
    rw [StableHlo.nullary_result', StableHlo.nullary_result'], StableHlo.nullary_bufs_sub .., rfl⟩ h

theorem Rising.unary (f : x.ty.Contents Val → y.ty.Contents Val) (hx hy) (hn : n ≤ place y) (hxy : place x < place y)
    (h : Rising (place y + 1) ops) : Rising n (StableHlo.unary (τ := τ) x y f hx hy :: ops) :=
  .cons y hn ⟨StableHlo.unary_writes .., fun F G e => by
    rw [StableHlo.unary_result', StableHlo.unary_result', e x hxy], StableHlo.unary_bufs_sub .., rfl⟩ h

theorem Rising.binary (f : a.ty.Contents Val → b.ty.Contents Val → y.ty.Contents Val) (ha hb hy) (hn : n ≤ place y)
    (hay : place a < place y) (hby : place b < place y) (h : Rising (place y + 1) ops) :
    Rising n (StableHlo.binary (τ := τ) a b y f ha hb hy :: ops) :=
  .cons y hn ⟨StableHlo.binary_writes .., fun F G e => by
    rw [StableHlo.binary_result', StableHlo.binary_result', e a hay, e b hby], StableHlo.binary_bufs_sub .., rfl⟩ h

theorem Rising.reshape (he hsh hx hy) (hn : n ≤ place y) (hxy : place x < place y) (h : Rising (place y + 1) ops) :
    Rising n (StableHlo.reshape (τ := τ) (Val := Val) x y he hsh hx hy :: ops) :=
  .cons y hn ⟨StableHlo.reshape_writes .., fun F G e => by
    rw [StableHlo.reshape_result', StableHlo.reshape_result', e x hxy], StableHlo.reshape_bufs_sub .., rfl⟩ h

end Builders

variable {n : ℕ} {ops : List (HloOp τ sig Val)}

/-- What such a line touches is the TensorCore's. -/
theorem Rising.scope (h : Rising n ops) : ops.Forall fun op => op.bufs ⊆ StableHlo.tcRefs τ sig := by
  induction h with
  | nil => trivial
  | cons y hn hop _ ih => exact (List.forall_cons _ _ _).mpr ⟨hop.scope, ih⟩

/-- Every operation of such a line determines its result. -/
theorem Rising.decided (h : Rising n ops) : ∀ op ∈ ops, op.fresh = ∅ := by
  induction h with
  | nil => exact fun _ h => absurd h List.not_mem_nil
  | cons y hn hop _ ih =>
    intro op hm
    rcases List.mem_cons.mp hm with rfl | hm
    · exact hop.decided
    · exact ih op hm

/-- A buffer placed before the line's first keeps its contents. -/
theorem Rising.keeps (h : Rising n ops) : ∀ (V : Valuation τ sig Val) (x : Ref sig .tc), place x < n →
    StableHlo.after ops V (Proc.devRef .tc x) = V (Proc.devRef .tc x) := by
  induction h with
  | nil => exact fun _ _ _ => rfl
  | cons y hn hop _ ih =>
    intro V x hx
    rw [StableHlo.after_cons, ih _ x (by omega), HloOp.result_of_not_mem]
    rw [hop.writes, Finset.mem_singleton]
    exact StableHlo.devRef_ne_of_ne fun e => by subst e; omega

/-- `V` satisfies every operation of the line: rewriting any of its buffers once more changes nothing. -/
inductive Settled (V : Valuation τ sig Val) : List (HloOp τ sig Val) → Prop
  | nil : Settled V []
  | cons {op : HloOp τ sig Val} {ops : List (HloOp τ sig Val)}
      (hop : ∀ b ∈ op.writes, op.result V b = V b) (h : Settled V ops) : Settled V (op :: ops)

/-- THE END OF A RISING LINE SATISFIES IT. -/
theorem Rising.settled (h : Rising n ops) : ∀ V : Valuation τ sig Val, Settled (StableHlo.after ops V) ops := by
  induction h with
  | nil => exact fun _ => .nil
  | cons y hn hop hrest ih =>
    intro V
    refine .cons (fun b hb => ?_) (ih _)
    rw [hop.writes, Finset.mem_singleton] at hb
    subst hb
    rw [StableHlo.after_cons, hrest.keeps _ y (by omega)]
    refine hop.reads _ _ fun x hx => ?_
    rw [hrest.keeps _ x (by omega), HloOp.result_of_not_mem]
    rw [hop.writes, Finset.mem_singleton]
    exact StableHlo.devRef_ne_of_ne fun e => by subst e; omega

theorem Settled.head {V : Valuation τ sig Val} {op : HloOp τ sig Val} {ops : List (HloOp τ sig Val)}
    (h : Settled V (op :: ops)) : ∀ b ∈ op.writes, op.result V b = V b := by
  cases h with | cons h _ => exact h

theorem Settled.tail {V : Valuation τ sig Val} {op : HloOp τ sig Val} {ops : List (HloOp τ sig Val)}
    (h : Settled V (op :: ops)) : Settled V ops := by
  cases h with | cons _ h => exact h

/-- Two lines one after the other are satisfied together. -/
theorem Settled.split {V : Valuation τ sig Val} {l₁ l₂ : List (HloOp τ sig Val)} (h : Settled V (l₁ ++ l₂)) :
    Settled V l₁ ∧ Settled V l₂ := by
  induction l₁ with
  | nil => exact ⟨.nil, h⟩
  | cons op l ih => exact ⟨.cons (Settled.head h) (ih (Settled.tail h)).1, (ih (Settled.tail h)).2⟩

theorem Settled.join {V : Valuation τ sig Val} {l₁ l₂ : List (HloOp τ sig Val)} (h₁ : Settled V l₁) (h₂ : Settled V l₂) :
    Settled V (l₁ ++ l₂) := by
  induction l₁ with
  | nil => exact h₂
  | cons op l ih => exact .cons (Settled.head h₁) (ih (Settled.tail h₁))

/-- What a typed reference holds in a valuation. -/
def rd {T : BufTy} (V : Valuation τ sig Val) (t : StableHlo.TRef sig T) : T.Contents Val :=
  t.ofBuf (V (Proc.devRef .tc t.ref))

section Read

variable {V : Valuation τ sig Val} {T Ta Tb : BufTy} {rest : List (HloOp τ sig Val)}

theorem Settled.nullary {y : StableHlo.TRef sig T} {v : T.Contents Val}
    (h : Settled V (StableHlo.TRef.nullary y v :: rest)) : rd V y = v := by
  have e := h.head (Proc.devRef .tc y.ref) (by rw [StableHlo.nullary_writes]; exact Finset.mem_singleton_self _)
  rw [StableHlo.nullary_result'] at e
  rw [rd, ← e, StableHlo.TRef.ofBuf_toBuf]

theorem Settled.unary {x : StableHlo.TRef sig Ta} {y : StableHlo.TRef sig T} {f : Ta.Contents Val → T.Contents Val}
    (h : Settled V (StableHlo.TRef.unary x y f :: rest)) : rd V y = f (rd V x) := by
  have e := h.head (Proc.devRef .tc y.ref) (by rw [StableHlo.unary_writes]; exact Finset.mem_singleton_self _)
  rw [StableHlo.unary_result'] at e
  rw [rd, ← e, StableHlo.TRef.ofBuf_toBuf]; rfl

theorem Settled.binary {a : StableHlo.TRef sig Ta} {b : StableHlo.TRef sig Tb} {y : StableHlo.TRef sig T}
    {f : Ta.Contents Val → Tb.Contents Val → T.Contents Val}
    (h : Settled V (StableHlo.TRef.binary a b y f :: rest)) : rd V y = f (rd V a) (rd V b) := by
  have e := h.head (Proc.devRef .tc y.ref) (by rw [StableHlo.binary_writes]; exact Finset.mem_singleton_self _)
  rw [StableHlo.binary_result'] at e
  rw [rd, ← e, StableHlo.TRef.ofBuf_toBuf]; rfl

theorem Settled.reshape {x : StableHlo.TRef sig Ta} {y : StableHlo.TRef sig T} {he : Ta.elt = T.elt}
    {hn : Ta.shape.ShapeCasts T.shape} (h : Settled V (StableHlo.TRef.reshape x y he hn :: rest)) :
    rd V y = fun i => he ▸ shapeCast T.shape (rd V x) hn i := by
  obtain ⟨x, rfl, _, _⟩ := x
  obtain ⟨y, rfl, _, _⟩ := y
  have e := h.head (Proc.devRef .tc y) (by rw [StableHlo.reshape_writes]; exact Finset.mem_singleton_self _)
  rw [StableHlo.reshape_result'] at e
  exact e.symm

end Read

section Program

variable {nD : Nat} {Λ : Labels}

/-- A call in the middle of a line: the callee's operations, then the rest. -/
theorem line_append {p : Prog (TpuEff nD τ sig Val Λ .tc) PUnit} {q : Prog (TpuEff nD τ sig Val Λ .tc) PUnit}
    {l₁ l₂ : List (HloOp τ sig Val)} (h₁ : StableHlo.IsSeq p l₁) (h₂ : StableHlo.IsSeq q l₂) :
    StableHlo.IsSeq (p >>= fun _ => q) (l₁ ++ l₂) := by
  unfold StableHlo.IsSeq at *
  rw [h₁, h₂, StableHlo.seq_append]

end Program

end Cert.Settle

end
-- ==== Proof.Hash.lean ====
/- The counter hash (Threefry, 20 rounds of two 32-bit words) both programs draw their noise from, index by index, and
   how each printed round and key injection steps it: read off a settled line of operations, nine or so at a time. -/
module

public import proofs.«01_k».proof.Proof.Settle
public import Idealize.ShloMosaic.PureOps.Ideal

@[expose] public section

noncomputable section

namespace Cert.Hash

open Cert.Settle Idealize.ShloMosaic Idealize.ShloMosaic.StableHlo

/-- The two words of a hash state. -/
abbrev Words : Type := BitVec 32 × BitVec 32

/-- A word turned left by `r` places (`q` is `32 - r`), as the programs write it: two shifts joined. -/
def turn (r q v : BitVec 32) : BitVec 32 := IntOp.ori (IntOp.shli .host v r) (IntOp.shrui .host v q)

/-- One round. -/
def mix (r q : BitVec 32) (p : Words) : Words :=
  (IntOp.addi p.1 p.2, IntOp.xori (turn r q p.2) (IntOp.addi p.1 p.2))

/-- One key injection. -/
def inject (a b c : BitVec 32) (p : Words) : Words :=
  (IntOp.addi p.1 a, IntOp.addi (IntOp.addi p.2 b) c)

/-- The four rounds of an even group, and of an odd one. -/
def even4 (p : Words) : Words := mix 6#32 26#32 (mix 26#32 6#32 (mix 15#32 17#32 (mix 13#32 19#32 p)))
@[inherit_doc even4]
def odd4 (p : Words) : Words := mix 24#32 8#32 (mix 16#32 16#32 (mix 29#32 3#32 (mix 17#32 15#32 p)))

/-- The hash at key (0, 1), whose third key word is `466688987`, from the state after the first injection. -/
def scramble (p : Words) : Words :=
  inject 466688987#32 0#32 5#32 (even4 (inject 1#32 466688987#32 4#32 (odd4 (inject 0#32 1#32 3#32
    (even4 (inject 466688987#32 0#32 2#32 (odd4 (inject 1#32 466688987#32 1#32 (even4 p)))))))))

/-- The random word drawn at counter `n`: the hash's two words joined. -/
def word (n : ℕ) : BitVec 32 :=
  let p := scramble (0#32, IntOp.addi (BitVec.ofNat 32 n) 1#32)
  IntOp.xori p.1 p.2

variable {τ : Topo} {sig : RefSig} {S : Shape} {V : Valuation τ sig (Elt Ideal)} {rest : List (HloOp τ sig (Elt Ideal))}

/-- A buffer of words, and a scalar. -/
abbrev W32 (sig : RefSig) (S : Shape) : Type := TRef sig ⟨S, .i32⟩
@[inherit_doc W32]
abbrev K32 (sig : RefSig) : Type := TRef sig ⟨⟨0, ![]⟩, .i32⟩

/-- Two buffers hold the states `P`. -/
def Holds (V : Valuation τ sig (Elt Ideal)) (x0 x1 : W32 sig S) (P : S.Idx → Words) : Prop :=
  ∀ i, rd V x0 i = (P i).1 ∧ rd V x1 i = (P i).2

/-- A constant spread over an array. -/
theorem spread {c : K32 sig} {b : W32 sig S} {r : BitVec 32} {h : Shape.BroadcastsInDim ⟨0, ![]⟩ S ![]}
    (hs : Settled V (TRef.nullary c (constantI ⟨0, ![]⟩ 32 r) :: TRef.unary c b (broadcastInDim S ![] h) :: rest)) :
    ∀ i, rd V b i = r := by
  intro i
  rw [hs.tail.unary, hs.nullary]; rfl

/-- A scalar spread over an array. -/
theorem spread_of {c : K32 sig} {b : W32 sig S} {r : BitVec 32} {h : Shape.BroadcastsInDim ⟨0, ![]⟩ S ![]} (hc : ∀ j, rd V c j = r)
    (hs : Settled V (TRef.unary c b (broadcastInDim S ![] h) :: rest)) : ∀ i, rd V b i = r := by
  intro i
  rw [hs.unary]; exact hc _

section Round

variable {x0 x1 y0 y1 b s b' s' o t : W32 sig S} {c c' c'' : K32 sig} {r q w : BitVec 32}
  {h : Shape.BroadcastsInDim ⟨0, ![]⟩ S ![]} {P : S.Idx → Words}

/-- A word turned, as printed. -/
theorem turned {v : S.Idx → BitVec 32} (hv : ∀ i, rd V x1 i = v i)
    (hs : Settled V (TRef.nullary c (constantI ⟨0, ![]⟩ 32 r) :: TRef.unary c b (broadcastInDim S ![] h)
      :: TRef.binary x1 b s Host.shli :: TRef.nullary c' (constantI ⟨0, ![]⟩ 32 q)
      :: TRef.unary c' b' (broadcastInDim S ![] h) :: TRef.binary x1 b' s' Host.shrui :: TRef.binary s s' o ori :: rest)) :
    ∀ i, rd V o i = turn r q (v i) := by
  intro i
  rw [hs.tail.tail.tail.tail.tail.tail.binary, hs.tail.tail.tail.tail.tail.binary, hs.tail.tail.binary]
  show IntOp.ori (IntOp.shli .host (rd V x1 i) (rd V b i)) (IntOp.shrui .host (rd V x1 i) (rd V b' i)) = _
  rw [spread hs, spread hs.tail.tail.tail, hv i]; rfl

/-- A round as the kernel prints it. -/
theorem round (p : Holds V x0 x1 P)
    (hs : Settled V (TRef.binary x0 x1 y0 addi :: TRef.nullary c (constantI ⟨0, ![]⟩ 32 r)
      :: TRef.unary c b (broadcastInDim S ![] h) :: TRef.binary x1 b s Host.shli :: TRef.nullary c' (constantI ⟨0, ![]⟩ 32 q)
      :: TRef.unary c' b' (broadcastInDim S ![] h) :: TRef.binary x1 b' s' Host.shrui :: TRef.binary s s' o ori
      :: TRef.binary o y0 y1 xori :: rest)) :
    Holds V y0 y1 (fun i => mix r q (P i)) ∧ Settled V rest := by
  have h0 : ∀ i, rd V y0 i = IntOp.addi (P i).1 (P i).2 := fun i => by
    rw [hs.binary]; show IntOp.addi (rd V x0 i) (rd V x1 i) = _; rw [(p i).1, (p i).2]
  refine ⟨fun i => ⟨h0 i, ?_⟩, hs.tail.tail.tail.tail.tail.tail.tail.tail.tail⟩
  rw [hs.tail.tail.tail.tail.tail.tail.tail.tail.binary]
  show IntOp.xori (rd V o i) (rd V y0 i) = _
  rw [h0, turned (fun i => (p i).2) hs.tail]; rfl

/-- A round as the reference prints it. -/
theorem round' (p : Holds V x0 x1 P)
    (hs : Settled V (TRef.binary x0 x1 y0 addi :: TRef.nullary c (constantI ⟨0, ![]⟩ 32 r)
      :: TRef.unary c b (broadcastInDim S ![] h) :: TRef.binary x1 b s Host.shli :: TRef.nullary c' (constantI ⟨0, ![]⟩ 32 q)
      :: TRef.unary c' b' (broadcastInDim S ![] h) :: TRef.binary x1 b' s' Host.shrui :: TRef.binary s s' o ori
      :: TRef.binary y0 o y1 xori :: rest)) :
    Holds V y0 y1 (fun i => mix r q (P i)) ∧ Settled V rest := by
  have h0 : ∀ i, rd V y0 i = IntOp.addi (P i).1 (P i).2 := fun i => by
    rw [hs.binary]; show IntOp.addi (rd V x0 i) (rd V x1 i) = _; rw [(p i).1, (p i).2]
  refine ⟨fun i => ⟨h0 i, ?_⟩, hs.tail.tail.tail.tail.tail.tail.tail.tail.tail⟩
  rw [hs.tail.tail.tail.tail.tail.tail.tail.tail.binary]
  show IntOp.xori (rd V y0 i) (rd V o i) = _
  rw [h0, turned (fun i => (p i).2) hs.tail]
  exact BitVec.xor_comm _ _

/-- A key injection as the kernel prints it: three constants. -/
theorem injected {d d' d'' : W32 sig S} (p : Holds V x0 x1 P)
    (hs : Settled V (TRef.nullary c (constantI ⟨0, ![]⟩ 32 r) :: TRef.unary c d (broadcastInDim S ![] h)
      :: TRef.binary x0 d y0 addi :: TRef.nullary c' (constantI ⟨0, ![]⟩ 32 q) :: TRef.unary c' d' (broadcastInDim S ![] h)
      :: TRef.binary x1 d' t addi :: TRef.nullary c'' (constantI ⟨0, ![]⟩ 32 w) :: TRef.unary c'' d'' (broadcastInDim S ![] h)
      :: TRef.binary t d'' y1 addi :: rest)) :
    Holds V y0 y1 (fun i => inject r q w (P i)) ∧ Settled V rest := by
  refine ⟨fun i => ⟨?_, ?_⟩, hs.tail.tail.tail.tail.tail.tail.tail.tail.tail⟩
  · rw [hs.tail.tail.binary]
    show IntOp.addi (rd V x0 i) (rd V d i) = _
    rw [spread hs, (p i).1]; rfl
  · rw [hs.tail.tail.tail.tail.tail.tail.tail.tail.binary, hs.tail.tail.tail.tail.tail.binary]
    show IntOp.addi (IntOp.addi (rd V x1 i) (rd V d' i)) (rd V d'' i) = _
    rw [spread hs.tail.tail.tail, spread hs.tail.tail.tail.tail.tail.tail, (p i).2]; rfl

/-- A key injection as the reference prints it: two words of the key, and a constant. -/
theorem injected' {d d' d'' : W32 sig S} (p : Holds V x0 x1 P) (hr : ∀ j, rd V c j = r) (hq : ∀ j, rd V c' j = q)
    (hs : Settled V (TRef.unary c d (broadcastInDim S ![] h)
      :: TRef.binary x0 d y0 addi :: TRef.unary c' d' (broadcastInDim S ![] h)
      :: TRef.binary x1 d' t addi :: TRef.nullary c'' (constantI ⟨0, ![]⟩ 32 w) :: TRef.unary c'' d'' (broadcastInDim S ![] h)
      :: TRef.binary t d'' y1 addi :: rest)) :
    Holds V y0 y1 (fun i => inject r q w (P i)) ∧ Settled V rest := by
  refine ⟨fun i => ⟨?_, ?_⟩, hs.tail.tail.tail.tail.tail.tail.tail⟩
  · rw [hs.tail.binary]
    show IntOp.addi (rd V x0 i) (rd V d i) = _
    rw [spread_of hr hs, (p i).1]; rfl
  · rw [hs.tail.tail.tail.tail.tail.tail.binary, hs.tail.tail.tail.binary]
    show IntOp.addi (IntOp.addi (rd V x1 i) (rd V d' i)) (rd V d'' i) = _
    rw [spread_of hq hs.tail.tail, spread hs.tail.tail.tail.tail, (p i).2]; rfl

end Round

end Cert.Hash

end
-- ==== Proof.Draw.lean ====
/- The Gumbel draw of a random word: nine bits dropped, the rest the mantissa of a number in [1, 2), one taken off, the
   number moved into [tiny, 1), then `-log(-log ·)`; and how a settled line of operations computes it. -/
module

public import proofs.«01_k».proof.Proof.Hash

@[expose] public section

noncomputable section

namespace Cert.Draw

open Cert.Settle Cert.Hash Idealize.ShloMosaic Idealize.ShloMosaic.StableHlo

/-- One, and the smallest positive normal number, from their words. -/
abbrev one : EReal := Ideal.ofBits .f32 0x3F800000#32
@[inherit_doc one]
abbrev tiny : EReal := Ideal.ofBits .f32 0x00800000#32

/-- The word whose upper bits are `b`'s as a mantissa, under the exponent of one. -/
def patt (b : BitVec 32) : BitVec 32 := IntOp.ori (IntOp.shrui .host b 9#32) 1065353216#32

/-- The uniform draw. -/
def unif (b : BitVec 32) : EReal := max tiny ((Ideal.ofBits .f32 (patt b) - one) * (one - tiny) + tiny)

/-- The Gumbel draw. -/
def draw (b : BitVec 32) : EReal := -Ideal.log (-Ideal.log (unif b))

variable {τ : Topo} {sig : RefSig} {S : Shape} {V : Valuation τ sig (Elt Ideal)} {rest : List (HloOp τ sig (Elt Ideal))}

/-- A buffer of numbers, and a scalar. -/
abbrev F32 (sig : RefSig) (S : Shape) : Type := TRef sig ⟨S, .f32⟩
@[inherit_doc F32]
abbrev E32 (sig : RefSig) : Type := TRef sig ⟨⟨0, ![]⟩, .f32⟩

/-- A number spread over an array. -/
theorem spreadF {c : E32 sig} {b : F32 sig S} {r : BitVec 32} {h : Shape.BroadcastsInDim ⟨0, ![]⟩ S ![]}
    (hs : Settled V (TRef.nullary c (constant (F := Ideal) ⟨0, ![]⟩ .f32 r) :: TRef.unary c b (broadcastInDim S ![] h) :: rest)) :
    ∀ i, rd V b i = Ideal.ofBits .f32 r := by
  intro i
  rw [hs.tail.unary, hs.nullary]; rfl

variable {w : S.Idx → BitVec 32}

/-- From the random word to the number in [0, 1). -/
theorem mantissa {x b s b' o : W32 sig S} {c c' : K32 sig} {f b'' y : F32 sig S} {c'' : E32 sig}
    {h : Shape.BroadcastsInDim ⟨0, ![]⟩ S ![]} (hw : ∀ i, rd V x i = w i)
    (hs : Settled V (TRef.nullary c (constantI ⟨0, ![]⟩ 32 9#32) :: TRef.unary c b (broadcastInDim S ![] h)
      :: TRef.binary x b s Host.shrui :: TRef.nullary c' (constantI ⟨0, ![]⟩ 32 1065353216#32)
      :: TRef.unary c' b' (broadcastInDim S ![] h) :: TRef.binary s b' o ori :: TRef.unary o f (bitcastToFloat (F := Ideal) (s := S) .f32)
      :: TRef.nullary c'' (constant (F := Ideal) ⟨0, ![]⟩ .f32 0x3F800000#32) :: TRef.unary c'' b'' (broadcastInDim S ![] h)
      :: TRef.binary f b'' y (subf (F := Ideal) (s := S) (φ := .f32)) :: rest)) :
    (∀ i, rd V y i = Ideal.ofBits .f32 (patt (w i)) - one) ∧ Settled V rest := by
  refine ⟨fun i => ?_, hs.tail.tail.tail.tail.tail.tail.tail.tail.tail.tail⟩
  rw [hs.tail.tail.tail.tail.tail.tail.tail.tail.tail.binary]
  show (rd V f i : EReal) - rd V b'' i = _
  rw [spreadF hs.tail.tail.tail.tail.tail.tail.tail, hs.tail.tail.tail.tail.tail.tail.unary]
  show Ideal.ofBits .f32 (rd V o i) - _ = _
  rw [hs.tail.tail.tail.tail.tail.binary]
  show Ideal.ofBits .f32 (IntOp.ori (rd V s i) (rd V b' i)) - _ = _
  rw [spread hs.tail.tail.tail, hs.tail.tail.binary]
  show Ideal.ofBits .f32 (IntOp.ori (IntOp.shrui .host (rd V x i) (rd V b i)) _) - _ = _
  rw [spread hs, hw]; rfl

/-- From the uniform draw to the Gumbel draw. -/
theorem twice_log {x a b c d : F32 sig S} {u : S.Idx → EReal} (hx : ∀ i, rd V x i = u i)
    (hs : Settled V (TRef.unary x a (Host.log (F := Ideal) (s := S) (φ := .f32)) :: TRef.unary a b (Host.negf (F := Ideal) (s := S) (φ := .f32)) :: TRef.unary b c (Host.log (F := Ideal) (s := S) (φ := .f32))
      :: TRef.unary c d (Host.negf (F := Ideal) (s := S) (φ := .f32)) :: rest)) :
    (∀ i, rd V d i = -Ideal.log (-Ideal.log (u i))) ∧ Settled V rest := by
  refine ⟨fun i => ?_, hs.tail.tail.tail.tail⟩
  rw [hs.tail.tail.tail.unary, hs.tail.tail.unary, hs.tail.unary, hs.unary]
  show -Ideal.log (-Ideal.log (rd V x i)) = _
  rw [hx]

end Cert.Draw

end
-- ==== Proof.KerNoise.lean ====
/- The noise array the kernel's host code makes before the launch: element `n` of the flat array is the Gumbel draw of
   the random word at counter `n`, and the array handed to the kernel is its rows. -/
module

public import proofs.«01_k».proof.Proof.Hash
public import proofs.«01_k».proof.Proof.Draw
public import proofs.«01_k».proof.Proof.Gen.KernelIdeal.Frame
public import Idealize.ShloMosaic.Lib.Pipeline.Value

@[expose] public section

set_option maxRecDepth 20000

noncomputable section

namespace Cert.KernelIdeal.Noise

open Cert.KernelIdeal Cert.KernelIdeal.Gen Cert.Settle Cert.Hash Idealize.ShloMosaic Idealize.ShloMosaic.StableHlo Idealize.SL.Sem

set_option maxHeartbeats 4000000 in
/-- Each buffer of the host code is written once, its operands before it. -/
theorem rising : Rising 1 (hostOps0 (F := Ideal)) := by
  repeat first
    | exact Rising.nil _
    | refine Rising.nullary _ _ (by decide) ?_
    | refine Rising.unary _ _ _ (by decide) (by decide) ?_
    | refine Rising.binary _ _ _ _ (by decide) (by decide) (by decide) ?_
    | refine Rising.reshape _ _ _ _ (by decide) (by decide) ?_

variable {V : Valuation τ sig (Elt Ideal)}

/-- The hash's starting state at flat index `n`: the key (0, 1) added to the counter words (0, n). -/
theorem start (hs : Settled V (hostOps0 (F := Ideal))) :
    Holds V (.of main_call0_v3 : TRef sig ⟨S4194304, .i32⟩) (.of main_call0_v5)
      (fun i => (0#32, IntOp.addi (BitVec.ofNat 32 (i 0).val) 1#32)) ∧ Settled V (hostOps0 (F := Ideal)).tail.tail.tail.tail.tail.tail.tail.tail.tail := by
  refine ⟨fun i => ⟨?_, ?_⟩, hs.tail.tail.tail.tail.tail.tail.tail.tail.tail⟩
  · rw [hs.tail.tail.tail.tail.tail.binary]
    show IntOp.addi (rd V _ i) (rd V _ i) = _
    rw [spread hs, spread hs.tail.tail.tail]; rfl
  · rw [hs.tail.tail.tail.tail.tail.tail.tail.tail.binary]
    show IntOp.addi (rd V _ i) (rd V _ i) = _
    rw [spread hs.tail.tail.tail.tail.tail.tail, hs.tail.tail.nullary]; rfl

set_option maxHeartbeats 4000000 in
/-- The flat noise array. -/
theorem flat (hs : Settled V (hostOps0 (F := Ideal))) (i : S4194304.Idx) :
    rd V (.of main_call0_v194 : TRef sig ⟨S4194304, .f32⟩) i = Draw.draw (word (i 0).val) ∧
    rd V (.of main_call0_v195 : TRef sig ⟨S128x32768, .f32⟩)
      = shapeCast S128x32768 (rd V (.of main_call0_v194 : TRef sig ⟨S4194304, .f32⟩)) shapeCasts_S4194304_S128x32768 := by
  obtain ⟨p, hs⟩ := start hs
  iterate 4 (replace ⟨p, hs⟩ := round p hs)
  replace ⟨p, hs⟩ := injected p hs
  iterate 4 (replace ⟨p, hs⟩ := round p hs)
  replace ⟨p, hs⟩ := injected p hs
  iterate 4 (replace ⟨p, hs⟩ := round p hs)
  replace ⟨p, hs⟩ := injected p hs
  iterate 4 (replace ⟨p, hs⟩ := round p hs)
  replace ⟨p, hs⟩ := injected p hs
  iterate 4 (replace ⟨p, hs⟩ := round p hs)
  replace ⟨p, hs⟩ := injected p hs
  have hw : ∀ i, rd V (.of main_call0_v176 : TRef sig ⟨S4194304, .i32⟩) i = word (i 0).val := fun i => by
    rw [hs.binary]
    show IntOp.xori (rd V _ i) (rd V _ i) = _
    rw [(p i).1, (p i).2]; rfl
  replace hs := hs.tail
  replace ⟨hb, hs⟩ := Draw.mantissa hw hs
  have ho : ∀ i, rd V (.of main_call0_v185 : TRef sig ⟨S4194304, .f32⟩) i = Draw.one - Draw.tiny := fun i => by
    rw [hs.tail.tail.tail.unary, hs.tail.tail.binary, hs.nullary, hs.tail.nullary]; rfl
  replace hs := hs.tail.tail.tail.tail
  have hu : ∀ i, rd V (.of main_call0_v190 : TRef sig ⟨S4194304, .f32⟩) i = Draw.unif (word (i 0).val) := fun i => by
    rw [hs.tail.tail.tail.tail.tail.tail.binary]
    show max (rd V _ i : EReal) (rd V _ i) = _
    rw [Draw.spreadF hs.tail.tail.tail.tail, hs.tail.tail.tail.binary]
    show max _ ((rd V _ i : EReal) + rd V _ i) = _
    rw [Draw.spreadF hs.tail, hs.binary]
    show max _ ((rd V _ i : EReal) * rd V _ i + _) = _
    rw [hb, ho]; rfl
  replace ⟨hd, hs⟩ := Draw.twice_log hu hs.tail.tail.tail.tail.tail.tail.tail
  exact ⟨hd i, hs.reshape⟩

/-- The noise array at a row and a column, as the launch finds it. -/
theorem noise (m : (ℓ : Loc nD τ sig) → Buf (Elt Ideal) ℓ) (c : Dev nD) (i : S128x32768.Idx) :
    Gen.V m c main_call0_v195 i = Draw.draw (word ((i 0).val * 32768 + (i 1).val)) := by
  have hb : (i 0).val * 32768 + (i 1).val < 4194304 := by
    have h0 : (i 0).val < 128 := (i 0).isLt
    have h1 : (i 1).val < 32768 := (i 1).isLt
    omega
  have hs := rising.settled (fun b => m (c, b))
  let k : S4194304.Idx := fun | 0 => ⟨(i 0).val * 32768 + (i 1).val, hb⟩
  have hf := flat hs k
  have e : Gen.V m c main_call0_v195 = _ := hf.2
  rw [e, shapeCast_apply _ _ i k
    (by rw [Shape.rowMajor_val_one, Shape.rowMajor_val_two]; rfl), hf.1]

end Cert.KernelIdeal.Noise

end
-- ==== Proof.Rows.lean ====
/- Arrays of `R` rows of `C` real numbers: what a row's sum, a row's maximum and a row value laid back along the row are,
   in the kernel's operations and in the host's. -/
module

public import Idealize.ShloMosaic.PureOps.Ideal.Laws
public import Idealize.ShloMosaic.Lib.IdealHost
public import Idealize.ShloMosaic.Lib.KernelVsHost
public import Idealize.ShloMosaic.Lib.Pipeline.Value

@[expose] public section

noncomputable section

namespace Cert.Rows

open Idealize.ShloMosaic

variable {R C : ℕ}

/-- `R` rows of `C`, one column of `R`, and `R` in a line. -/
abbrev Tall (R C : ℕ) : Shape := ⟨2, ![R, C]⟩
@[inherit_doc Tall]
abbrev Line (R : ℕ) : Shape := ⟨1, ![R]⟩

/-- The array `x` holds the real numbers `f`. -/
def Is (x : FVec Ideal (Tall R C) .f32) (f : Fin R → Fin C → ℝ) : Prop := ∀ i, x i = ((f (i 0) (i 1) : ℝ) : EReal)

/-- The line `x` holds the real numbers `f`. -/
def IsL (x : FVec Ideal (Line R) .f32) (f : Fin R → ℝ) : Prop := ∀ i, x i = ((f (i 0) : ℝ) : EReal)

variable {x y : FVec Ideal (Tall R C) .f32} {f g : Fin R → Fin C → ℝ}

/-- Casting a finite sum of reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A nonempty family of reals has a real maximum. -/
theorem fold_max {ι : Type} (s : Finset ι) (f : ι → EReal) (hf : ∀ k, ∃ r : ℝ, f k = r) :
    s.fold max ⊥ f = ⊥ ∧ s = ∅ ∨ ∃ r : ℝ, s.fold max ⊥ f = r := by
  classical
  induction s using Finset.induction_on with
  | empty => exact .inl ⟨Finset.fold_empty, rfl⟩
  | insert a s ha ih =>
    obtain ⟨r, hr⟩ := hf a
    rw [Finset.fold_insert ha, hr]
    rcases ih with ⟨h, _⟩ | ⟨q, h⟩
    · exact .inr ⟨r, by rw [h]; exact max_eq_left bot_le⟩
    · exact .inr ⟨max r q, by rw [h]; exact (EReal.coe_strictMono.monotone.map_max).symm⟩

/-- Minus infinity, from its word. -/
theorem neg_inf : Ideal.ofBits .f32 0xFF800000#32 = ⊥ := by simp [Ideal.ofBits, Ideal.ieee]

section Kernel

variable {acc : BitVec FTy.f32.bits} {h : (Tall R C).Reduces [1] (Line R)} {hφ : FKind.Formats .f32}

/-- A row's sum, by the kernel. -/
theorem sum_kernel (hx : Is x f) (hacc : acc = FKind.add.neutral .f32 hφ) :
    IsL (multiReduction .add [1] (Line R) x acc h hφ hacc) (fun r => ∑ c, f r c) := fun j => by
  rw [Ideal.multiReduction_add_single, ← coe_sum]
  exact Finset.sum_congr rfl fun k _ => hx _

/-- A row's maximum, by the kernel, is some real number. -/
theorem max_kernel (hC : 0 < C) (hx : Is x f) (hacc : 0xFF800000#32 = FKind.maximumf.neutral .f32 hφ) :
    ∃ M : Fin R → ℝ, IsL (multiReduction .maximumf [1] (Line R) x 0xFF800000#32 h hφ hacc) M := by
  have key : ∀ r : Fin R, ∃ q : ℝ, multiReduction .maximumf [1] (Line R) x 0xFF800000#32 h hφ hacc (fun | 0 => r) = q := fun r => by
    rw [Ideal.multiReduction_maximumf_single]
    show ∃ q : ℝ, Finset.fold max (Ideal.ofBits .f32 0xFF800000#32) _ _ = _
    rw [neg_inf]
    rcases fold_max Finset.univ (x ∘ h.lift (fun | 0 => r)) (fun k => ⟨_, hx _⟩) with ⟨_, e⟩ | e
    · exact absurd (Finset.mem_univ (⟨0, hC⟩ : Fin C)) (by rw [show (Finset.univ : Finset (Fin C)) = ∅ from e]; simp)
    · exact e
  choose M hM using key
  exact ⟨M, fun i => by
    have e : i = (fun | 0 => i 0) := funext fun | 0 => rfl
    rw [e]; exact hM _⟩

/-- A line laid along the rows, by the kernel. -/
theorem along_kernel {v : FVec Ideal (Line R) .f32} {q : Fin R → ℝ} (hv : IsL v q)
    (hc : (Line R).ShapeCasts (Tall R 1)) (hb : (Tall R 1).Broadcasts (Tall R C)) :
    Is (broadcastTo (Tall R C) (shapeCast (Tall R 1) v hc) hb) (fun r _ => q r) := fun i => by
  rw [broadcastTo_apply _ hb i (fun | 0 => i 0 | 1 => (0 : Fin 1)) (fun
      | 0 => by
        show (i 0).val = if R = 1 then 0 else (i 0).val
        split
        · have : (i 0).val < R := (i 0).isLt
          omega
        · rfl
      | 1 => rfl),
    shapeCast_apply v hc _ (fun | 0 => i 0) (by
      rw [Shape.rowMajor_val_one, Shape.rowMajor_val_two]; show (i 0).val = (i 0).val * 1 + 0; omega), hv]; rfl

end Kernel

section Host

variable {S0 : Shape} {init : FVec Ideal S0 .f32} {h : (Tall R C).ReducesTo [1] (Line R)} {hu : 0 < S0.numel}

/-- A row's sum, by the host. -/
theorem sum_host (h' : (Tall R C).Reduces [1] (Line R)) (hx : Is x f) (h0 : init (Shape.Idx.first hu) = 0) :
    IsL (Host.reduceAdd x init h hu) (fun r => ∑ c, f r c) := fun j => by
  rw [ValueIdx.hostReduceAdd_apply, Ideal.hostReduceAdd_single h h', h0, zero_add, ← coe_sum]
  exact Finset.sum_congr rfl fun k _ => hx _

/-- A row's maximum, by the host, is some real number. -/
theorem max_host (h' : (Tall R C).Reduces [1] (Line R)) (hC : 0 < C) (hx : Is x f) :
    ∃ M : Fin R → ℝ, IsL (Host.reduce FloatOps.maximumf x (constant (F := Ideal) S0 .f32 0xFF800000#32) h hu) M := by
  rw [hostReduce_maximumf_eq_multiReduction x 0xFF800000#32 h hu h' (.inl rfl) rfl]
  exact max_kernel hC hx rfl

/-- A line laid along the rows, by the host. -/
theorem along_host {v : FVec Ideal (Line R) .f32} {q : Fin R → ℝ} (hv : IsL v q)
    (hc : (Line R).BroadcastsInDim (Tall R 1) ![0]) (hb : (Tall R 1).BroadcastsInDim (Tall R C) ![0, 1]) :
    Is (broadcastInDim (Tall R C) ![0, 1] hb (broadcastInDim (Tall R 1) ![0] hc v)) (fun r _ => q r) := fun i => by
  have hr : (i 0).val < R := (i 0).isLt
  rw [broadcastInDim_apply _ hb _ i (fun | 0 => i 0 | 1 => (0 : Fin 1)) (fun
      | 0 => by
        show (i 0).val = if R = 1 then 0 else (i 0).val
        split <;> omega
      | 1 => rfl),
    broadcastInDim_apply _ hc v _ (fun | 0 => i 0) (fun
      | 0 => by
        show (i 0).val = if R = 1 then 0 else (i 0).val
        split <;> omega), hv]; rfl

end Host

end Cert.Rows

end
-- ==== Proof.RowMath.lean ====
/- One row, over the real numbers. The reference moves the scores by the logarithm of a mask and takes the softmax eight
   times; the kernel keeps weights and takes from each weight its share of itself. Both give the same shares, as long as no
   mask falls to its floor: that is where the spread of the scores comes in. -/
module

public import Mathlib.Analysis.SpecialFunctions.Log.Basic
public import Mathlib.Analysis.SpecialFunctions.Exp
public import Mathlib.Algebra.BigOperators.Fin

@[expose] public section

noncomputable section

namespace Cert.RowMath

open Finset

variable {n : ℕ}

/-- Each entry's share of the row. -/
def soft (w : Fin n → ℝ) (c : Fin n) : ℝ := w c / ∑ k, w k

/-- Each weight less its share of itself. -/
def nxt (w : Fin n → ℝ) (c : Fin n) : ℝ := w c - soft w c * w c

/-- The kernel's row: the shares of the weights, summed over eight turns. -/
def kernelRow (w : Fin n → ℝ) (c : Fin n) : ℝ := ∑ t ∈ range 8, soft (nxt^[t] w) c

/-- The reference's state: scores, latest shares, sum of shares. -/
structure State (n : ℕ) where
  s : Fin n → ℝ
  p : Fin n → ℝ
  k : Fin n → ℝ

/-- The mask's floor. -/
def floor : ℝ := 2 ^ (-126 : ℤ)

/-- The scores moved by the mask's logarithm. -/
def moved (σ : State n) (c : Fin n) : ℝ := σ.s c + Real.log (max (1 - σ.p c) floor)

/-- One iteration of the reference. -/
def step (σ : State n) : State n where
  s := moved σ
  p := soft fun c => Real.exp (moved σ c)
  k c := σ.k c + soft (fun c => Real.exp (moved σ c)) c

/-- The state it starts from. -/
def initial (s : Fin n → ℝ) : State n := ⟨s, fun _ => 0, fun _ => 0⟩

theorem floor_pos : 0 < floor := by unfold floor; positivity

theorem floor_le : floor ≤ 1 := by unfold floor; norm_num

/-- A softmax does not see a common factor. -/
theorem soft_mul {a : ℝ} (ha : a ≠ 0) (w : Fin n → ℝ) : soft (fun c => a * w c) = soft w := by
  funext c
  unfold soft
  rw [← mul_sum, mul_div_mul_left _ _ ha]

section Step

variable {w : Fin n → ℝ} {a b : ℝ}

/-- The rest of the row. -/
def others (w : Fin n → ℝ) (c : Fin n) : ℝ := ∑ k ∈ univ.erase c, w k

theorem total (w : Fin n → ℝ) (c : Fin n) : ∑ k, w k = w c + others w c :=
  (add_sum_erase univ w (mem_univ c)).symm

theorem le_others (h : ∀ c, a ≤ w c) (c : Fin n) : ((n - 1 : ℕ) : ℝ) * a ≤ others w c := by
  have := card_nsmul_le_sum (univ.erase c) w a fun k _ => h k
  rwa [card_erase_of_mem (mem_univ c), card_univ, Fintype.card_fin, nsmul_eq_mul] at this

/-- What is left of a share, and of a weight. -/
theorem one_sub_soft (c : Fin n) (h : w c + others w c ≠ 0) : 1 - soft w c = others w c / (w c + others w c) := by
  unfold soft
  rw [total w c]
  field_simp
  ring

theorem nxt_eq (c : Fin n) : nxt w c = w c * (1 - soft w c) := by unfold nxt; ring

/-- A turn takes at most half of the smallest weight, and raises none. -/
theorem nxt_bounds (ha : 0 < a) (hn : 2 ≤ n) (h : ∀ c, a ≤ w c ∧ w c ≤ b) (c : Fin n) : a / 2 ≤ nxt w c ∧ nxt w c ≤ b := by
  have hy : a ≤ others w c := by
    have h1 := le_others (fun c => (h c).1) c
    have h2 : (1 : ℝ) ≤ ((n - 1 : ℕ) : ℝ) := by exact_mod_cast (by omega : 1 ≤ n - 1)
    nlinarith
  have hx := (h c).1
  have hs : 0 < w c + others w c := by linarith
  rw [nxt_eq, one_sub_soft c hs.ne', ← mul_div_assoc]
  constructor
  · rw [le_div_iff₀ hs]; nlinarith [mul_nonneg (sub_nonneg.mpr hx) (by linarith : (0 : ℝ) ≤ others w c), mul_nonneg (sub_nonneg.mpr hy) (by linarith : (0 : ℝ) ≤ w c)]
  · rw [div_le_iff₀ hs]
    have hb := (h c).2
    nlinarith [mul_nonneg (sub_nonneg.mpr hb) (by linarith : (0 : ℝ) ≤ others w c), mul_pos (by linarith : (0 : ℝ) < w c) (by linarith : (0 : ℝ) < b)]

/-- No mask falls to its floor while the weights spread no further than this. -/
theorem floor_le_mask (ha : 0 < a) (hn : n = 32768) (h : ∀ c, a ≤ w c ∧ w c ≤ b) (hab : b ≤ 2 ^ 139 * a) (c : Fin n) :
    floor ≤ 1 - soft w c := by
  have hy : 32767 * a ≤ others w c := by
    have h1 := le_others (fun c => (h c).1) c
    rwa [show ((n - 1 : ℕ) : ℝ) = 32767 by simp [hn]] at h1
  have hx := h c
  have hs : 0 < w c + others w c := by linarith
  rw [one_sub_soft c hs.ne', le_div_iff₀ hs]
  have hf : floor * 2 ^ 139 = 8192 := by unfold floor; norm_num
  have hf' : floor ≤ 1 / 2 := by unfold floor; norm_num
  have h1 : floor * w c ≤ 8192 * a := by
    calc floor * w c ≤ floor * (2 ^ 139 * a) := mul_le_mul_of_nonneg_left (hx.2.trans hab) floor_pos.le
      _ = 8192 * a := by rw [← mul_assoc, hf]
  have h2 : floor * others w c ≤ 1 / 2 * others w c := mul_le_mul_of_nonneg_right hf' (by linarith)
  linarith [mul_add floor (w c) (others w c)]

end Step

/-- The weights after `t` turns stay within a factor that doubles. -/
theorem turns_bounds {w : Fin n → ℝ} {a b : ℝ} (ha : 0 < a) (hn : 2 ≤ n) (h : ∀ c, a ≤ w c ∧ w c ≤ b) (t : ℕ) :
    ∀ c, a / 2 ^ t ≤ nxt^[t] w c ∧ nxt^[t] w c ≤ b := by
  induction t with
  | zero => simpa using h
  | succ t ih =>
    intro c
    rw [Function.iterate_succ_apply', pow_succ, ← div_div]
    exact nxt_bounds (by positivity) hn ih c

/-- The reference after `t + 1` iterations, in the kernel's terms: its scores are the logarithms of the weights up to a
    common shift `M`, its shares the weights' shares, its sum their sum. -/
theorem invariant (hn : n = 32768) (s : Fin n → ℝ) (M lo : ℝ) (h : ∀ c, lo ≤ s c ∧ s c ≤ lo + 127 * Real.log 2) (t : ℕ) (ht : t ≤ 7) :
    (∀ c, Real.exp ((step^[t + 1] (initial s)).s c) = Real.exp M * nxt^[t] (fun c => Real.exp (s c - M)) c)
    ∧ (step^[t + 1] (initial s)).p = soft (nxt^[t] fun c => Real.exp (s c - M))
    ∧ ∀ c, (step^[t + 1] (initial s)).k c = ∑ j ∈ range (t + 1), soft (nxt^[j] fun c => Real.exp (s c - M)) c := by
  set w : Fin n → ℝ := fun c => Real.exp (s c - M) with hw
  have hM : Real.exp M ≠ 0 := (Real.exp_pos M).ne'
  -- the shares follow from the scores
  have shares : ∀ (σ : State n) (v : Fin n → ℝ), (∀ c, Real.exp (moved σ c) = Real.exp M * v c) → (step σ).p = soft v := by
    intro σ v e
    show soft (fun c => Real.exp (moved σ c)) = _
    rw [show (fun c => Real.exp (moved σ c)) = fun c => Real.exp M * v c from funext e, soft_mul hM]
  have sums : ∀ (σ : State n) c, (step σ).k c = σ.k c + (step σ).p c := fun _ _ => rfl
  have hb : ∀ c, Real.exp (lo - M) ≤ w c ∧ w c ≤ 2 ^ 127 * Real.exp (lo - M) := by
    intro c
    constructor
    · exact Real.exp_le_exp.mpr (by linarith [(h c).1])
    · have e : (2 : ℝ) ^ 127 = Real.exp (127 * Real.log 2) := by
        rw [show (127 : ℝ) = ((127 : ℕ) : ℝ) by norm_num, Real.exp_nat_mul, Real.exp_log two_pos]
      rw [e, ← Real.exp_add]
      exact Real.exp_le_exp.mpr (by linarith [(h c).2])
  induction t with
  | zero =>
    have e : ∀ c, Real.exp (moved (initial s) c) = Real.exp M * w c := fun c => by
      rw [hw, ← Real.exp_add]
      congr 1
      show s c + Real.log (max (1 - 0) floor) = _
      rw [sub_zero, max_eq_left floor_le, Real.log_one]; ring
    refine ⟨e, shares _ _ e, fun c => ?_⟩
    rw [zero_add, sum_range_one]
    show (step (initial s)).k c = _
    rw [sums, shares _ _ e]
    exact zero_add _
  | succ t ih =>
    obtain ⟨h1, h2, h3⟩ := ih (by omega)
    rw [Function.iterate_succ_apply' step, Function.iterate_succ_apply' nxt]
    set σ := step^[t + 1] (initial s) with hσ
    have hm : ∀ c, floor ≤ 1 - soft (nxt^[t] w) c := by
      refine floor_le_mask (a := Real.exp (lo - M) / 2 ^ t) (b := 2 ^ 127 * Real.exp (lo - M)) (by positivity) hn
        (turns_bounds (Real.exp_pos _) (by omega) hb t) ?_
      have h6 : (2 : ℝ) ^ t ≤ 2 ^ 12 := pow_le_pow_right₀ (by norm_num) (by omega)
      rw [← mul_div_assoc, le_div_iff₀ (by positivity)]
      have := mul_le_mul_of_nonneg_left h6 (mul_nonneg (by positivity : (0 : ℝ) ≤ 2 ^ 127) (Real.exp_pos (lo - M)).le)
      calc _ ≤ _ := this
        _ = _ := by ring
    have e : ∀ c, Real.exp (moved σ c) = Real.exp M * nxt (nxt^[t] w) c := fun c => by
      unfold moved
      rw [Real.exp_add, h1, h2, max_eq_left (hm c), Real.exp_log (floor_pos.trans_le (hm c)), nxt_eq]; ring
    refine ⟨e, shares _ _ e, fun c => ?_⟩
    rw [sums, shares _ _ e, h3, sum_range_succ _ (t + 1), Function.iterate_succ_apply']

/-- THE ROW: eight iterations of the reference sum to the kernel's row, whatever shift the kernel takes. -/
theorem row_eq (hn : n = 32768) (s : Fin n → ℝ) (M lo : ℝ) (h : ∀ c, lo ≤ s c ∧ s c ≤ lo + 127 * Real.log 2) (c : Fin n) :
    (step^[8] (initial s)).k c = kernelRow (fun c => Real.exp (s c - M)) c :=
  (invariant hn s M lo h 7 le_rfl).2.2 c

end Cert.RowMath

end
-- ==== Proof.DrawBound.lean ====
/- A Gumbel draw is a real number between `-7 log 2` and `24 log 2`, whatever the random word. -/
module

public import proofs.«01_k».proof.Proof.Draw
public import Mathlib.Analysis.SpecialFunctions.Log.Basic

@[expose] public section

noncomputable section

namespace Cert.Draw

open Idealize.ShloMosaic

/-- One and the floor, as real numbers. -/
theorem one_eq : one = ((1 : ℝ) : EReal) := by
  simp [one, Ideal.ofBits, Ideal.ieee, -EReal.coe_mul]; norm_num

theorem tiny_eq : tiny = ((2 ^ (-126 : ℤ) : ℝ) : EReal) := by
  simp [tiny, Ideal.ofBits, Ideal.ieee, -EReal.coe_mul]; norm_num

/-- The upper nine bits of the pattern are those of one. -/
theorem patt_toNat (b : BitVec 32) : (patt b).toNat = 1065353216 + b.toNat / 512 := by
  have h : b.toNat < 4294967296 := b.isLt
  have e : patt b = (b >>> 9#32) ||| 1065353216#32 := rfl
  have e1 : (b >>> 9#32).toNat = b.toNat / 512 := by
    simp [BitVec.toNat_ushiftRight, Nat.shiftRight_eq_div_pow]
  rw [e, BitVec.toNat_or, e1]
  have := Nat.two_pow_add_eq_or_of_lt (i := 23) (b := b.toNat / 512) (by omega) 127
  rw [Nat.or_comm]
  simpa using this.symm

/-- The number in [1, 2) that the pattern is. -/
theorem mantissa_eq (b : BitVec 32) :
    Ideal.ofBits .f32 (patt b) = ((1 + ((b.toNat / 512 : ℕ) : ℝ) / 8388608 : ℝ) : EReal) := by
  have h : b.toNat / 512 < 8388608 := by have := b.isLt; omega
  have hp := patt_toNat b
  generalize b.toNat / 512 = m at h hp
  have e1 : ((patt b).extractLsb' 23 8).toNat = 127 := by
    rw [BitVec.extractLsb'_toNat, hp, Nat.shiftRight_eq_div_pow]; omega
  have e2 : ((patt b).extractLsb' 0 23).toNat = m := by
    rw [BitVec.extractLsb'_toNat, hp, Nat.shiftRight_eq_div_pow]; omega
  have e3 : (patt b).extractLsb' 31 1 ≠ 1#1 := by
    intro e
    have e' := congrArg BitVec.toNat e
    rw [BitVec.extractLsb'_toNat, hp, Nat.shiftRight_eq_div_pow] at e'
    simp at e'
    omega
  simp [Ideal.ofBits, Ideal.ieee, e1, e2, e3, -EReal.coe_mul, -EReal.coe_add]
  ring

/-- Two thirds are less than `log 2`. -/
theorem two_thirds : 2 / 3 ≤ Real.log 2 := by
  have h1 : Real.exp (1 / 24) ≤ 24 / 23 := by
    have h := Real.add_one_le_exp (-(1 / 24) : ℝ)
    rw [Real.exp_neg] at h
    have h' : (23 / 24 : ℝ) ≤ (Real.exp (1 / 24))⁻¹ := by linarith
    have := inv_anti₀ (by norm_num) h'
    rw [inv_inv] at this
    linarith
  rw [Real.le_log_iff_exp_le two_pos]
  calc Real.exp (2 / 3) = Real.exp (1 / 24) ^ 16 := by rw [← Real.exp_nat_mul]; norm_num
    _ ≤ (24 / 23) ^ 16 := pow_le_pow_left₀ (Real.exp_pos _).le h1 16
    _ ≤ 2 := by norm_num

/-- The uniform number is real, no smaller than the floor, and stays below one by a last bit. -/
theorem unif_eq (b : BitVec 32) :
    ∃ u : ℝ, unif b = (u : EReal) ∧ 2 ^ (-126 : ℤ) ≤ u ∧ u ≤ 1 - 2 ^ (-24 : ℤ) := by
  have h : b.toNat / 512 < 8388608 := by have := b.isLt; omega
  have hm := mantissa_eq b
  generalize b.toNat / 512 = m at h hm
  have h' : (m : ℝ) ≤ 8388607 := by exact_mod_cast (by omega : m ≤ 8388607)
  refine ⟨max (2 ^ (-126 : ℤ)) ((1 + (m : ℝ) / 8388608 - 1) * (1 - 2 ^ (-126 : ℤ)) + 2 ^ (-126 : ℤ)), ?_, le_max_left _ _, ?_⟩
  · unfold unif
    rw [hm, one_eq, tiny_eq]
    norm_cast
  · refine max_le (by norm_num) ?_
    have ht : (0 : ℝ) < 2 ^ (-126 : ℤ) := by positivity
    have ht' : (2 : ℝ) ^ (-126 : ℤ) ≤ 2 ^ (-26 : ℤ) := by norm_num
    have e24 : (2 : ℝ) ^ (-24 : ℤ) = 1 / 16777216 := by norm_num
    have e26 : (2 : ℝ) ^ (-26 : ℤ) = 1 / 67108864 := by norm_num
    have hm0 : (0 : ℝ) ≤ m := Nat.cast_nonneg m
    generalize (2 : ℝ) ^ (-126 : ℤ) = t at ht ht'
    rw [e24]; rw [e26] at ht'
    nlinarith [mul_nonneg hm0 ht.le]

/-- THE DRAW is a real number between `-7 log 2` and `24 log 2`. -/
theorem draw_bounds (b : BitVec 32) :
    ∃ g : ℝ, draw b = (g : EReal) ∧ -7 * Real.log 2 ≤ g ∧ g ≤ 24 * Real.log 2 := by
  obtain ⟨u, hu, lo, hi⟩ := unif_eq b
  have ht : (0 : ℝ) < 2 ^ (-126 : ℤ) := by positivity
  have u0 : 0 < u := ht.trans_le lo
  have y1 : (2 : ℝ) ^ (-24 : ℤ) ≤ -Real.log u := by
    have := Real.log_le_sub_one_of_pos u0
    linarith
  have y2 : -Real.log u ≤ 2 ^ (7 : ℤ) := by
    have h1 := Real.log_le_log ht lo
    rw [Real.log_zpow] at h1
    have h2 : Real.log 2 ≤ 1 := by have := Real.log_le_sub_one_of_pos (two_pos : (0 : ℝ) < 2); linarith
    push_cast at h1
    have h3 : (2 : ℝ) ^ (7 : ℤ) = 128 := by norm_num
    linarith
  have y0 : 0 < -Real.log u := lt_of_lt_of_le (by positivity) y1
  refine ⟨-Real.log (-Real.log u), ?_, ?_, ?_⟩
  · unfold draw
    rw [hu, Ideal.log_coe, if_neg u0.not_ge, ← EReal.coe_neg, Ideal.log_coe, if_neg y0.not_ge, EReal.coe_neg]
  · have h := Real.log_le_log y0 y2
    rw [Real.log_zpow] at h
    push_cast at h
    linarith
  · have h := Real.log_le_log (by positivity) y1
    rw [Real.log_zpow] at h
    push_cast at h
    linarith

/-- The draw as a real number. -/
def gum (b : BitVec 32) : ℝ := Classical.choose (draw_bounds b)

theorem draw_eq (b : BitVec 32) : draw b = (gum b : EReal) := (Classical.choose_spec (draw_bounds b)).1

theorem gum_bounds (b : BitVec 32) : -7 * Real.log 2 ≤ gum b ∧ gum b ≤ 24 * Real.log 2 := (Classical.choose_spec (draw_bounds b)).2

end Cert.Draw

end
-- ==== Proof.KerBody.lean ====
/- What one block of the kernel computes: from scores and noise that hold real numbers, in every row the sum of eight turns'
   shares of the weights `exp(s - M)`, for some real `M`. -/
module

public import proofs.«01_k».proof.Proof.Rows
public import proofs.«01_k».proof.Proof.RowMath
public import proofs.«01_k».proof.Proof.DrawBound
public import proofs.«01_k».proof.Proof.Gen.KernelIdeal.Skeleton

@[expose] public section

noncomputable section

namespace Cert.KernelIdeal.Body

open Cert.KernelIdeal Cert.KernelIdeal.Gen Cert.Rows Cert.RowMath Idealize.ShloMosaic

/-- A block of 16 rows. -/
abbrev Block : Type := FVec Ideal S16x32768 .f32

/-- One over each row's sum, in a column. -/
def inverse (x : Block) : FVec Ideal S16x1 .f32 :=
  divf (broadcast S16x1 (Scalar.ofBits (F := Ideal) .f32 0x3F800000#32))
    (shapeCast S16x1 (multiReduction .add [1] S16 x 0x00000000#32 reduces_S16x32768_S16 (.inl rfl) rfl) shapeCasts_S16_S16x1)

/-- Each weight's share of its row. -/
def share (x : Block) : Block := mulf x (broadcastTo S16x32768 (inverse x) broadcasts_S16x1_S16x32768)

/-- Each weight less its share of itself. -/
def left (x : Block) : Block := subf x (mulf (share x) x)

/-- The shares of `n + 1` turns, added up. -/
def total (x : Block) : ℕ → Block
  | 0 => share x
  | n + 1 => addf (total x n) (share (left^[n + 1] x))

/-- What the body stores is eight turns' shares of its weights. -/
theorem stored (a g : Block) : k0_pay1 (k0_pay10 a g) (k0_pay11 a g) (k0_pay12 a g) = total (k0_pay2 a g) 7 := rfl

/-- A row of positive weights stays one. -/
theorem nxt_pos {n : ℕ} (hn : 2 ≤ n) {w : Fin n → ℝ} (h : ∀ c, 0 < w c) (c : Fin n) : 0 < nxt w c := by
  have ho : 0 < others w c := by
    refine Finset.sum_pos (fun k _ => h k) (Finset.card_pos.mp ?_)
    rw [Finset.card_erase_of_mem (Finset.mem_univ c), Finset.card_univ, Fintype.card_fin]; omega
  have hs : 0 < w c + others w c := add_pos (h c) ho
  rw [nxt_eq, one_sub_soft c hs.ne']
  exact mul_pos (h c) (div_pos ho hs)

variable {x a g : Block} {w : Fin 16 → Fin 32768 → ℝ}

theorem inverse_is (hx : Is x w) (hw : ∀ r c, 0 < w r c) (i : S16x1.Idx) : inverse x i = ((1 / ∑ c, w (i 0) c : ℝ) : EReal) := by
  have pos : 0 < ∑ c, w (i 0) c := Finset.sum_pos (fun c _ => hw _ c) ⟨⟨0, by norm_num⟩, Finset.mem_univ _⟩
  have e : ∀ y : FVec Ideal S16x1 .f32, divf (broadcast S16x1 (Scalar.ofBits (F := Ideal) .f32 0x3F800000#32)) y i
      = Ideal.div (Ideal.ofBits .f32 0x3F800000#32) (y i) := fun _ => rfl
  have hz := sum_kernel (h := reduces_S16x32768_S16) (hφ := .inl rfl) hx rfl
  rw [inverse, e, shapeCast_apply _ shapeCasts_S16_S16x1 i (fun | 0 => i 0) (by
      rw [Shape.rowMajor_val_one, Shape.rowMajor_val_two]
      have h1 : (i 1).val < 1 := (i 1).isLt
      show (i 0).val = (i 0).val * 1 + (i 1).val
      omega)]
  refine (congrArg _ (hz (fun | 0 => i 0))).trans ?_
  rw [Ideal.div_coe pos.ne', show Ideal.ofBits .f32 0x3F800000#32 = _ from Draw.one_eq, ← EReal.coe_mul, one_mul]

theorem share_is (hx : Is x w) (hw : ∀ r c, 0 < w r c) : Is (share x) fun r => soft (w r) := fun i => by
  show (x i : EReal) * broadcastTo S16x32768 (inverse x) broadcasts_S16x1_S16x32768 i = _
  rw [broadcastTo_apply _ broadcasts_S16x1_S16x32768 i (fun | 0 => i 0 | 1 => (0 : Fin 1)) (fun | 0 => rfl | 1 => rfl),
    inverse_is hx hw, hx, ← EReal.coe_mul]
  refine congrArg _ ?_
  show w (i 0) (i 1) * (1 / _) = w (i 0) (i 1) / _
  rw [mul_one_div]

theorem left_is (hx : Is x w) (hw : ∀ r c, 0 < w r c) : Is (left x) fun r => nxt (w r) := fun i => by
  show (x i : EReal) - share x i * x i = _
  rw [share_is hx hw, hx, ← EReal.coe_mul, ← EReal.coe_sub]
  rfl

theorem turns_is (hx : Is x w) (hw : ∀ r c, 0 < w r c) (n : ℕ) :
    Is (left^[n] x) (fun r => nxt^[n] (w r)) ∧ ∀ r c, 0 < nxt^[n] (w r) c := by
  induction n with
  | zero => exact ⟨hx, hw⟩
  | succ n ih =>
    rw [Function.iterate_succ_apply']
    refine ⟨fun i => ?_, fun r c => ?_⟩
    · refine (left_is ih.1 ih.2 i).trans (congrArg _ ?_)
      exact (congrFun (Function.iterate_succ_apply' nxt n (w (i 0))) (i 1)).symm
    · rw [Function.iterate_succ_apply']
      exact nxt_pos (by norm_num) (ih.2 r) c

theorem total_is (hx : Is x w) (hw : ∀ r c, 0 < w r c) (n : ℕ) :
    Is (total x n) fun r c => ∑ t ∈ Finset.range (n + 1), soft (nxt^[t] (w r)) c := by
  induction n with
  | zero => exact fun i => by rw [total, share_is hx hw]; simp
  | succ n ih =>
    intro i
    show (total x n i : EReal) + share (left^[n + 1] x) i = _
    rw [ih, share_is (turns_is hx hw (n + 1)).1 (turns_is hx hw (n + 1)).2, ← EReal.coe_add]
    exact congrArg _ (Finset.sum_range_succ (fun t => soft (nxt^[t] (w (i 0))) (i 1)) (n + 1)).symm

/-- The weights: the exponentials of the scores, shifted by the row's maximum. -/
theorem weights {s q : Fin 16 → Fin 32768 → ℝ} (ha : Is a s) (hg : Is g q) :
    ∃ M : Fin 16 → ℝ, Is (k0_pay2 a g) fun r c => Real.exp (s r c + q r c - M r) := by
  have hv : Is (addf (F := Ideal) (s := S16x32768) (φ := .f32) a (shapeCast S16x32768 g shapeCasts_S16x32768_S16x32768)) fun r c => s r c + q r c := fun i => by
    show (a i : EReal) + shapeCast S16x32768 g shapeCasts_S16x32768_S16x32768 i = _
    rw [shapeCast_apply g shapeCasts_S16x32768_S16x32768 i i rfl, ha, hg, ← EReal.coe_add]
  obtain ⟨M, hM⟩ := max_kernel (h := reduces_S16x32768_S16) (hφ := .inl rfl) (by norm_num) hv rfl
  refine ⟨M, fun i => ?_⟩
  show Ideal.exp ((addf (F := Ideal) (s := S16x32768) (φ := .f32) a (shapeCast S16x32768 g shapeCasts_S16x32768_S16x32768) i : EReal)
    - broadcastTo S16x32768 (shapeCast S16x1 _ shapeCasts_S16_S16x1) broadcasts_S16x1_S16x32768 i) = _
  rw [hv, along_kernel hM shapeCasts_S16_S16x1 broadcasts_S16x1_S16x32768 i, ← EReal.coe_sub, Ideal.exp_coe]

/-- THE BLOCK. -/
theorem block {s q : Fin 16 → Fin 32768 → ℝ} (ha : Is a s) (hg : Is g q) :
    ∃ M : Fin 16 → ℝ, Is (k0_pay1 (k0_pay10 a g) (k0_pay11 a g) (k0_pay12 a g)) fun r => kernelRow fun c => Real.exp (s r c + q r c - M r) := by
  obtain ⟨M, hM⟩ := weights ha hg
  exact ⟨M, by rw [stored]; exact total_is hM (fun r c => Real.exp_pos _) 7⟩

end Cert.KernelIdeal.Body

end
-- ==== Proof.KerArray.lean ====
/- The kernel's launch, read back: what the one result array holds once all eight blocks of sixteen rows are written.
   Each point of the grid writes its own sixteen rows, each row from the same row of the two input arrays, so the array
   is one function of its row and column. -/
module

public import proofs.«01_k».proof.Proof.KerNoise
public import proofs.«01_k».proof.Proof.KerBody

@[expose] public section

noncomputable section

namespace Cert.KernelIdeal.Array

open Cert.KernelIdeal Cert.KernelIdeal.Gen Cert.Rows Cert.RowMath Idealize.ShloMosaic Idealize.ShloMosaic.TcCoe Idealize.SL.Sem
open Idealize.ShloMosaic.Pipeline (Dat)

/-- The scores with the noise added. -/
def noisy (x : Fin 128 → Fin 32768 → ℝ) (r : Fin 128) (c : Fin 32768) : ℝ := x r c + Draw.gum (Hash.word (r.val * 32768 + c.val))

/-- The eight rounds of the reference on one noisy row. -/
def result (x : Fin 128 → Fin 32768 → ℝ) (r : Fin 128) : Fin 32768 → ℝ := (step^[8] (initial (noisy x r))).k

/-- Scores of size at most 32 and the bounded noise leave less than `127 log 2` between two entries of a row. -/
theorem noisy_bounds {x : Fin 128 → Fin 32768 → ℝ} (hx : ∀ r c, |x r c| ≤ 32) (r : Fin 128) (c : Fin 32768) :
    -32 - 7 * Real.log 2 ≤ noisy x r c ∧ noisy x r c ≤ -32 - 7 * Real.log 2 + 127 * Real.log 2 := by
  have hg := Draw.gum_bounds (Hash.word (r.val * 32768 + c.val))
  have hs := abs_le.mp (hx r c)
  have h2 := Draw.two_thirds
  unfold noisy
  constructor <;> linarith [hg.1, hg.2, hs.1, hs.2]

/-- So the kernel's weights, whatever the row's shift, give the reference's result. -/
theorem row_result {x : Fin 128 → Fin 32768 → ℝ} (hx : ∀ r c, |x r c| ≤ 32) (r : Fin 128) (M : ℝ) (c : Fin 32768) :
    kernelRow (fun c => Real.exp (noisy x r c - M)) c = result x r c :=
  (row_eq rfl (noisy x r) M _ (noisy_bounds hx r) c).symm

/-- The index every window takes at a grid point: the point's number along the rows, the whole of the columns. -/
theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = t.val ∧ win0_1.index t (1 : Fin 2) = 0 :=
  (by decide +kernel : ∀ t : Fin grid0.N, _)
theorem place2 : ∀ t : Fin cfg0.N, win0_2.index t (0 : Fin 2) = t.val ∧ win0_2.index t (1 : Fin 2) = 0 :=
  (by decide +kernel : ∀ t : Fin grid0.N, _)

/-- The array's row that is row `r` of the block at point `t`. -/
def row (t : Fin cfg0.N) (r : Fin 16) : Fin 128 := ⟨t.val * 16 + r.val, by have : t.val < 8 := t.isLt; omega⟩

/-- An index of the block at point `t`, as an index of the array. -/
def at' (t : Fin cfg0.N) (y : S16x32768.Idx) : S128x32768.Idx := fun
  | ⟨0, _⟩ => row t (y 0)
  | ⟨1, _⟩ => y 1

theorem emb0 (t : Fin cfg0.N) (y : S16x32768.Idx) : ((cfg0.win 0).blk t).view.emb y = at' t y := by
  obtain ⟨h0, h1⟩ := place0 t
  funext a; apply Fin.ext
  match a with
  | ⟨0, _⟩ => show win0_0.index t (0 : Fin 2) * 16 + 1 * (y 0).val = t.val * 16 + (y 0).val; omega
  | ⟨1, _⟩ => show win0_0.index t (1 : Fin 2) * 32768 + 1 * (y 1).val = (y 1).val; omega

theorem emb1 (t : Fin cfg0.N) (y : S16x32768.Idx) : ((cfg0.win 1).blk t).view.emb y = at' t y := by
  obtain ⟨h0, h1⟩ := place1 t
  funext a; apply Fin.ext
  match a with
  | ⟨0, _⟩ => show win0_1.index t (0 : Fin 2) * 16 + 1 * (y 0).val = t.val * 16 + (y 0).val; omega
  | ⟨1, _⟩ => show win0_1.index t (1 : Fin 2) * 32768 + 1 * (y 1).val = (y 1).val; omega

theorem emb2 (t : Fin cfg0.N) (y : S16x32768.Idx) : ((cfg0.win 2).blk t).view.emb y = at' t y := by
  obtain ⟨h0, h1⟩ := place2 t
  funext a; apply Fin.ext
  match a with
  | ⟨0, _⟩ => show win0_2.index t (0 : Fin 2) * 16 + 1 * (y 0).val = t.val * 16 + (y 0).val; omega
  | ⟨1, _⟩ => show win0_2.index t (1 : Fin 2) * 32768 + 1 * (y 1).val = (y 1).val; omega

variable (m : (ℓ : Loc nD τ sig) → Buf (Elt Ideal) ℓ) (ρ : Dev nD → PrngReg) (d : Dev nD)

/-- The scores' block reads the argument at the block's own rows, -/
theorem scores_at (t : Fin cfg0.N) (y : S16x32768.Idx) : iblk m d 0 t y = m ((d : Thread nD τ).loc main_arg0) (at' t y) :=
  (congrArg (V m d main_arg0) (emb0 t y)).trans (congrFun (V_main_arg0 m d) (at' t y))

/-- so it holds sixteen rows of them, -/
theorem scores_block {x : Fin 128 → Fin 32768 → ℝ} (hm : Is (R := 128) (C := 32768) (m ((d : Thread nD τ).loc main_arg0)) x) (t : Fin cfg0.N) :
    Is (R := 16) (C := 32768) (iblk m d 0 t) fun r c => x (row t r) c := fun y =>
  (scores_at m d t y).trans (hm (at' t y))

/-- The noise's block read at an index, whatever its array holds, -/
theorem noise_read (t : Fin cfg0.N) (f : Vec Ideal S128x32768 .f32) (y : S16x32768.Idx) :
    ((cfg0.win 1).blk t).view.read (Elt Ideal) f y = f (((cfg0.win 1).blk t).view.emb y) := rfl

theorem noise_at (t : Fin cfg0.N) (y : S16x32768.Idx) : iblk m d 1 t y = V m d main_call0_v195 (at' t y) :=
  (noise_read t (V m d main_call0_v195) y).trans (congrArg (V m d main_call0_v195) (emb1 t y))

/-- so it holds the draws at its own rows. -/
theorem noise_block (t : Fin cfg0.N) :
    Is (R := 16) (C := 32768) (iblk m d 1 t) fun r c => Draw.gum (Hash.word ((row t r).val * 32768 + c.val)) := fun y =>
  (noise_at m d t y).trans ((Noise.noise m d (at' t y)).trans (Draw.draw_eq _))

/-- The body reads its two blocks whole and stores its payload over the whole block. -/
theorem out_whole (a g : Vec Ideal S16x32768 .f32) :
    out0_2 a g = k0_pay1 (k0_pay10 a g) (k0_pay11 a g) (k0_pay12 a g) := by
  have hz : (![0, 0] : Fin S16x32768.rank → Nat) = fun _ => 0 := funext fun a => by fin_cases a <;> rfl
  unfold out0_2
  rw [View.canon_unit_zero hz, View.ld_unit_zero hz, View.ld_unit_zero hz]

/-- What a point writes back is its sixteen rows of the result. -/
theorem flushed_rows {x : Fin 128 → Fin 32768 → ℝ} (hm : Is (R := 128) (C := 32768) (m ((d : Thread nD τ).loc main_arg0)) x) (hx : ∀ r c, |x r c| ≤ 32)
    (t : Fin cfg0.N) (A : Vec Ideal S128x32768 .f32) (hA : Is (R := 128) (C := 32768) A (result x)) :
    (dats m 0 d).flushed 2 t = ((cfg0.win 2).blk t).view.read (Elt Ideal) A := by
  show (cfg0.win 2).cut (grid0.coords t) ((dats m 0 d).after 2 t) = _
  rw [after0_2, out_whole]
  obtain ⟨M, hM⟩ := Body.block (scores_block m d hm t) (noise_block m d t)
  funext y
  show k0_pay1 (k0_pay10 (iblk m d 0 t) (iblk m d 1 t)) (k0_pay11 (iblk m d 0 t) (iblk m d 1 t)) (k0_pay12 (iblk m d 0 t) (iblk m d 1 t)) y
    = A (((cfg0.win 2).blk t).view.emb y)
  rw [emb2]
  exact (hM y).trans ((congrArg (fun v : ℝ => (v : EReal)) (row_result hx (row t (y 0)) (M (y 0)) (y 1))).trans (hA (at' t y)).symm)

/-- Every index of the array lies in the block of its row's point. -/
theorem covered (i : S128x32768.Idx) : ∃ t : Fin cfg0.N, (cfg0.win 2).flush t = true ∧ i ∈ ((cfg0.win 2).blk t).view.set := by
  have h0 : (i 0).val < 128 := (i 0).isLt
  let t : Fin cfg0.N := ⟨(i 0).val / 16, by show (i 0).val / 16 < 8; omega⟩
  let y : S16x32768.Idx := fun
    | ⟨0, _⟩ => (⟨(i 0).val % 16, by omega⟩ : Fin 16)
    | ⟨1, _⟩ => i 1
  refine ⟨t, flush0_2 t, ?_⟩
  have hy : at' t y = i := by
    funext a; apply Fin.ext
    match a with
    | ⟨0, _⟩ => show (i 0).val / 16 * 16 + (i 0).val % 16 = (i 0).val; omega
    | ⟨1, _⟩ => rfl
  have h := ((cfg0.win 2).blk t).view.emb_mem_set y
  rwa [emb2, hy] at h

/-- The kernel runs, its result array ends holding the result row by row, and its argument is kept. -/
theorem run : θ_run (defs (F := Ideal)) (onTc (τ := τ) (main (F := Ideal))) ⟨m, fun _ => 0, ρ⟩ fun r => ∀ d : Dev nD,
    (∀ x : Fin 128 → Fin 32768 → ℝ, Is (R := 128) (C := 32768) (m ((d.tc : Thread nD τ).loc main_arg0)) x → (∀ r c, |x r c| ≤ 32) →
      Is (R := 128) (C := 32768) (r.2.mem ((d.tc : Thread nD τ).loc main_v0)) (result x))
    ∧ r.2.mem ((d.tc : Thread nD τ).loc main_arg0) = m ((d.tc : Thread nD τ).loc main_arg0) := by
  refine (θ_run defs _ _).mono (fun r h d => ⟨fun x hm hx i => ?_, ?_⟩) (run_main (F := Ideal) m ρ)
  · have hA : Is (R := 128) (C := 32768) (fun i => ((result x (i 0) (i 1) : ℝ) : EReal)) (result x) := fun _ => rfl
    exact congrFun (((h d).1 2).trans ((dats m 0 d).arrAt_eq_of_cover 2 _ (fun t _ => flushed_rows m d hm hx t _ hA) covered)) i
  · exact ((h d).1 0).trans (((dats m 0 d).arrAt_in 0 rfl _).trans ((A_eq m d 0).trans (V_main_arg0 m d)))

end Cert.KernelIdeal.Array

end
-- ==== Proof.RefLine.lean ====
/- The reference is a straight line of host operations, some of it inside three functions called once each. The line
   is read off the program, function by function; running it ends at the valuation that satisfies every operation. -/
module

public import proofs.«01_k».proof.Proof.Settle
public import proofs.«01_k».proof.Proof.Gen.ReferenceIdeal
public import Idealize.ShloMosaic.PureOps.Ideal

@[expose] public section

set_option maxRecDepth 20000

noncomputable section

namespace Cert.ReferenceIdeal.Line

open Cert.ReferenceIdeal Cert.ReferenceIdeal.Gen Cert.Settle Idealize.ShloMosaic Idealize.ShloMosaic.StableHlo Idealize.SL.Sem

/-- A program together with the operations it runs in order. -/
abbrev LineOf (p : Prog (TpuEff nD τ sig (Elt Ideal) (Pipeline.Sig Λ₀ (Fin 0) fun p => (pcfgs (F := Ideal) p).Adm) .tc) PUnit) : Type :=
  { ops : List (HloOp τ sig (Elt Ideal)) // IsSeq p ops }

section Threefry

variable (k0 k1 : TRef sig ⟨S_, .i32⟩) (c0 c1 : TRef sig ⟨S128x32768, .i32⟩) (φ : fn_threefry2x32.Bufs)

/-- The hash's operations, quarter by quarter as printed. -/
def hash0 : LineOf (fn_threefry2x32.body_part0 k0 k1 c0 c1 φ) := by
  apply Subtype.mk; unfold fn_threefry2x32.body_part0; hlo_seq
@[inherit_doc hash0]
def hash1 : LineOf (fn_threefry2x32.body_part1 k0 k1 c0 c1 φ) := by
  apply Subtype.mk; unfold fn_threefry2x32.body_part1; hlo_seq
@[inherit_doc hash0]
def hash2 : LineOf (fn_threefry2x32.body_part2 k0 k1 c0 c1 φ) := by
  apply Subtype.mk; unfold fn_threefry2x32.body_part2; hlo_seq
@[inherit_doc hash0]
def hash3 : LineOf (fn_threefry2x32.body_part3 k0 k1 c0 c1 φ) := by
  apply Subtype.mk; unfold fn_threefry2x32.body_part3; hlo_seq

/-- The whole hash. -/
def hash : LineOf (fn_threefry2x32.body k0 k1 c0 c1 φ) :=
  ⟨_, line_append (hash0 k0 k1 c0 c1 φ).2 (line_append (hash1 k0 k1 c0 c1 φ).2
    (line_append (hash2 k0 k1 c0 c1 φ).2 (hash3 k0 k1 c0 c1 φ).2))⟩

end Threefry

/-- The uniform draw: counters and key, the hash, the bits turned into a number between tiny and one. -/
def uniform (k : TRef sig ⟨S2, .i32⟩) (hi lo : TRef sig ⟨S_, .f32⟩) (φ : fn_uniform.Bufs) : LineOf (fn_uniform.body k hi lo φ) := by
  apply Subtype.mk
  unfold fn_uniform.body
  repeat first
    | exact IsSeq.nil
    | apply IsSeq.cons
    | apply line_append (hash φ.v4 φ.v6 φ.v17 φ.v16 φ.call0).2

/-- The Gumbel draw: the uniform draw under `-log(-log ·)`. -/
def gumbel (k : TRef sig ⟨S2, .i32⟩) (φ : fn_gumbel.Bufs) : LineOf (fn_gumbel.body k φ) := by
  apply Subtype.mk
  unfold fn_gumbel.body
  repeat first
    | exact IsSeq.nil
    | apply IsSeq.cons
    | apply line_append (uniform k φ.cst φ.cst_0 φ.call0).2

/-- `main`'s first window, the draw inside it. -/
def main0 (d : Dev nD) : LineOf (main_part0 d) := by
  apply Subtype.mk
  unfold main_part0
  repeat first
    | exact IsSeq.nil
    | apply IsSeq.cons
    | apply line_append (gumbel (.of main_v6) main_call0).2

/-- `main`'s other windows. -/
def main1 (d : Dev nD) : LineOf (main_part1 d) := by
  apply Subtype.mk; unfold main_part1; hlo_seq
@[inherit_doc main1]
def main2 (d : Dev nD) : LineOf (main_part2 d) := by
  apply Subtype.mk; unfold main_part2; hlo_seq
@[inherit_doc main1]
def main3 (d : Dev nD) : LineOf (main_part3 d) := by
  apply Subtype.mk; unfold main_part3; hlo_seq

/-- The whole reference as one line. -/
def whole (d : Dev nD) : LineOf (main d) :=
  ⟨_, line_append (main0 d).2 (line_append (main1 d).2 (line_append (main2 d).2 (main3 d).2))⟩

set_option maxHeartbeats 4000000 in
/-- Each buffer of the reference is written once, its operands before it. -/
theorem rising (d : Dev nD) : Rising 1 (whole d).1 := by
  repeat first
    | exact Rising.nil _
    | refine Rising.nullary _ _ (by decide) ?_
    | refine Rising.unary _ _ _ (by decide) (by decide) ?_
    | refine Rising.binary _ _ _ _ (by decide) (by decide) (by decide) ?_
    | refine Rising.reshape _ _ _ _ (by decide) (by decide) ?_

end Cert.ReferenceIdeal.Line

end
-- ==== Proof.RefHash.lean ====
/- The reference's hash, on the buffers of its one call: it ends in the scrambled state of its counters under key (0, 1). -/
module

public import proofs.«01_k».proof.Proof.Hash
public import proofs.«01_k».proof.Proof.RefLine

@[expose] public section

set_option maxRecDepth 20000

noncomputable section

namespace Cert.ReferenceIdeal.Noise

open Cert.ReferenceIdeal Cert.ReferenceIdeal.Gen Cert.ReferenceIdeal.Line Cert.Settle Cert.Hash Idealize.ShloMosaic Idealize.ShloMosaic.StableHlo Idealize.SL.Sem

variable {V : Valuation τ sig (Elt Ideal)} {k0 k1 : TRef sig ⟨S_, .i32⟩} {c0 c1 : TRef sig ⟨S128x32768, .i32⟩}
  {φ : fn_threefry2x32.Bufs} {lo : S128x32768.Idx → BitVec 32}

set_option maxHeartbeats 4000000 in
/-- The hash at key (0, 1) and counters (0, lo). -/
theorem hashed (h0 : ∀ j, rd V k0 j = 0#32) (h1 : ∀ j, rd V k1 j = 1#32) (hc0 : ∀ i, rd V c0 i = 0#32)
    (hc1 : ∀ i, rd V c1 i = lo i) (hs : Settled V (hash k0 k1 c0 c1 φ).1) :
    Holds V φ.v171 φ.v175 (fun i => scramble (0#32, IntOp.addi (lo i) 1#32)) := by
  have h2 : ∀ j, rd V φ.v1 j = 466688987#32 := fun j => by
    rw [hs.tail.tail.binary, hs.tail.nullary, hs.binary]
    show IntOp.xori (IntOp.xori (rd V k0 j) (rd V k1 j)) 466688986#32 = _
    rw [h0, h1]; rfl
  replace hs := hs.tail.tail.tail
  have p : Holds V φ.v3 φ.v5 (fun i => (0#32, IntOp.addi (lo i) 1#32)) := fun i => ⟨by
    rw [hs.tail.binary]
    show IntOp.addi (rd V c0 i) (rd V φ.v2 i) = _
    rw [spread_of h0 hs, hc0]; rfl, by
    rw [hs.tail.tail.tail.binary]
    show IntOp.addi (rd V c1 i) (rd V φ.v4 i) = _
    rw [spread_of h1 hs.tail.tail, hc1]⟩
  replace hs := hs.tail.tail.tail.tail
  iterate 4 (replace ⟨p, hs⟩ := round' p hs)
  replace ⟨p, hs⟩ := injected' p h1 h2 hs
  iterate 4 (replace ⟨p, hs⟩ := round' p hs)
  replace ⟨p, hs⟩ := injected' p h2 h0 hs
  iterate 4 (replace ⟨p, hs⟩ := round' p hs)
  replace ⟨p, hs⟩ := injected' p h0 h1 hs
  iterate 4 (replace ⟨p, hs⟩ := round' p hs)
  replace ⟨p, hs⟩ := injected' p h1 h2 hs
  iterate 4 (replace ⟨p, hs⟩ := round' p hs)
  replace ⟨p, hs⟩ := injected' p h2 h0 hs
  exact p

end Cert.ReferenceIdeal.Noise

end
-- ==== Proof.RefNoise.lean ====
/- The reference's noise array: at row `r` and column `c`, the Gumbel draw of the random word at counter
   `32768 r + c` under key (0, 1). -/
module

public import proofs.«01_k».proof.Proof.RefHash
public import proofs.«01_k».proof.Proof.Draw
public import Idealize.ShloMosaic.Lib.Pipeline.Value

@[expose] public section

set_option maxRecDepth 20000

noncomputable section

namespace Cert.ReferenceIdeal.Noise

open Cert.ReferenceIdeal Cert.ReferenceIdeal.Gen Cert.ReferenceIdeal.Line Cert.Settle Cert.Hash Idealize.ShloMosaic Idealize.ShloMosaic.StableHlo Idealize.SL.Sem

/-- The flat position of a row and a column. -/
def pos (i : S128x32768.Idx) : ℕ := (i 0).val * 32768 + (i 1).val

theorem pos_lt (i : S128x32768.Idx) : pos i < 4194304 := by
  have h0 : (i 0).val < 128 := (i 0).isLt
  have h1 : (i 1).val < 32768 := (i 1).isLt
  unfold pos; omega

/-- The 64-bit counter, as computed. -/
def count (i : S128x32768.Idx) : BitVec 64 :=
  IntOp.addi (IntOp.muli 32768#64 (BitVec.ofNat 64 (i 0).val)) (IntOp.muli 1#64 (BitVec.ofNat 64 (i 1).val))

theorem count_eq (i : S128x32768.Idx) : count i = BitVec.ofNat 64 (pos i) := by
  have h0 : (i 0).val < 128 := (i 0).isLt
  have h1 : (i 1).val < 32768 := (i 1).isLt
  apply BitVec.eq_of_toNat_eq
  simp only [count, pos, IntOp.addi, IntOp.muli, BitVec.toNat_add, BitVec.toNat_mul, BitVec.toNat_ofNat]
  omega

/-- Its two halves. -/
theorem low (i : S128x32768.Idx) : (count i).setWidth 32 = BitVec.ofNat 32 (pos i) := by
  rw [count_eq, BitVec.setWidth_ofNat_of_le (by decide)]

theorem high (i : S128x32768.Idx) : (IntOp.shrui .host (count i) 32#64).setWidth 32 = 0#32 := by
  have h := pos_lt i
  rw [count_eq]
  show ((BitVec.ofNat 64 (pos i)) >>> 32#64).setWidth 32 = _
  apply BitVec.eq_of_toNat_eq
  simp only [BitVec.ushiftRight_eq', BitVec.toNat_setWidth, BitVec.toNat_ushiftRight, BitVec.toNat_ofNat, Nat.shiftRight_eq_div_pow]
  rw [show (2 : ℕ) ^ (32 % 2 ^ 64) = 4294967296 by norm_num]
  omega

variable {V : Valuation τ sig (Elt Ideal)} {k : TRef sig ⟨S2, .i32⟩}

/-- The key's two words, taken out of the two-word array. -/
theorem word_of_key {s : TRef sig ⟨S1, .i32⟩} {o : TRef sig ⟨S_, .i32⟩} {a : Fin 2} {h : S2.Slices ![a.val] S1} {rest}
    (hs : Settled V (TRef.unary k s (extractStridedSlice S1 ![a.val] · h)
      :: TRef.reshape s o (rfl : (.i32 : EltTy) = .i32) shapeCasts_S1_S_ :: rest)) (j : S_.Idx) :
    rd V o j = rd V k (fun | 0 => a) := by
  let z : S1.Idx := fun | 0 => (0 : Fin 1)
  rw [hs.tail.reshape, hs.unary]
  show shapeCast S_ _ _ j = _
  rw [shapeCast_apply _ _ j z (by
    have h1 := (S1.rowMajor z).isLt
    have h2 := (S_.rowMajor j).isLt
    have e1 : S1.numel = 1 := by decide
    have e2 : S_.numel = 1 := by decide
    omega)]
  exact extractStridedSlice_apply _ _ h z _ fun | 0 => by simp [z]

set_option maxHeartbeats 4000000 in
/-- The uniform draws. -/
theorem uniformed {hi lo : TRef sig ⟨S_, .f32⟩} {φ : fn_uniform.Bufs} (h0 : rd V k (fun | 0 => (0 : Fin 2)) = 0#32)
    (h1 : rd V k (fun | 0 => (1 : Fin 2)) = 1#32) (hhi : ∀ j, rd V hi j = Draw.one) (hlo : ∀ j, rd V lo j = Draw.tiny)
    (hs : Settled V (uniform k hi lo φ).1) : ∀ i, rd V φ.v33 i = Draw.unif (word (pos i)) := by
  have e1 : ∀ j, rd V φ.v1 j = Draw.tiny := fun j => by rw [hs.tail.unary]; exact hlo _
  have e2 : ∀ j, rd V φ.v2 j = Draw.one := fun j => by rw [hs.tail.tail.unary, hs.unary]; exact hhi _
  replace hs := hs.tail.tail.tail
  have k0 : ∀ j, rd V φ.v4 j = 0#32 := fun j => (word_of_key (a := 0) hs j).trans h0
  have k1 : ∀ j, rd V φ.v6 j = 1#32 := fun j => (word_of_key (a := 1) hs.tail.tail j).trans h1
  replace hs := hs.tail.tail.tail.tail
  have hc : ∀ i, rd V φ.v13 i = count i := fun i => by
    rw [hs.tail.tail.tail.tail.tail.tail.tail.tail.binary]
    show IntOp.addi (rd V φ.v10 i) (rd V φ.v12 i) = _
    rw [hs.tail.tail.tail.tail.binary, hs.tail.tail.tail.unary, hs.tail.tail.nullary, hs.nullary,
      hs.tail.tail.tail.tail.tail.tail.tail.binary, hs.tail.tail.tail.tail.tail.tail.unary, hs.tail.tail.tail.tail.tail.nullary, hs.tail.nullary]
    rfl
  replace hs := hs.tail.tail.tail.tail.tail.tail.tail.tail.tail
  have hl : ∀ i, rd V φ.v16 i = BitVec.ofNat 32 (pos i) := fun i => by
    rw [hs.tail.tail.tail.unary]
    show (rd V φ.v13 i).setWidth 32 = _
    rw [hc, low]
  have hh : ∀ i, rd V φ.v17 i = 0#32 := fun i => by
    rw [hs.tail.tail.tail.tail.unary]
    show (rd V φ.v15 i).setWidth 32 = _
    rw [hs.tail.tail.binary]
    show (IntOp.shrui .host (rd V φ.v13 i) (rd V φ.v14 i)).setWidth 32 = _
    rw [hc, hs.tail.unary, hs.nullary]
    exact high i
  have hq : Settled V ((hash φ.v4 φ.v6 φ.v17 φ.v16 φ.call0).1 ++ _) := hs.tail.tail.tail.tail.tail
  have hp := Settled.split hq
  have p := hashed k0 k1 hh hl hp.1
  replace hs := hp.2
  have hw : ∀ i, rd V φ.v19 i = word (pos i) := fun i => by
    rw [hs.binary]
    show IntOp.xori (rd V _ i) (rd V _ i) = _
    rw [(p i).1, (p i).2]; rfl
  replace hs := hs.tail
  replace ⟨hb, hs⟩ := Draw.mantissa hw hs
  intro i
  rw [hs.tail.tail.tail.tail.tail.tail.binary]
  show max (rd V φ.v32 i : EReal) (rd V φ.v31 i) = _
  rw [hs.tail.tail.tail.tail.tail.unary, hs.tail.tail.tail.tail.binary]
  show max (rd V φ.v1 _ : EReal) ((rd V φ.v29 i : EReal) + rd V φ.v30 i) = _
  rw [hs.tail.tail.tail.unary, hs.tail.tail.binary]
  show max (rd V φ.v1 _ : EReal) ((rd V φ.v26 i : EReal) * rd V φ.v28 i + rd V φ.v1 _) = _
  rw [hs.tail.unary, hs.binary, e1, hb]
  show max _ (_ * ((rd V φ.v2 _ : EReal) - rd V φ.v1 _) + _) = _
  rw [e1, e2]; rfl

/-- The Gumbel draws. -/
theorem gumbeled {φ : fn_gumbel.Bufs} (h0 : rd V k (fun | 0 => (0 : Fin 2)) = 0#32) (h1 : rd V k (fun | 0 => (1 : Fin 2)) = 1#32)
    (hs : Settled V (gumbel k φ).1) : ∀ i, rd V φ.v4 i = Draw.draw (word (pos i)) := by
  replace hs : Settled V (_ :: _ :: ((uniform k φ.cst φ.cst_0 φ.call0).1 ++ _)) := hs
  have hhi : ∀ j, rd V φ.cst j = Draw.one := fun j => by rw [hs.nullary]; rfl
  have hlo : ∀ j, rd V φ.cst_0 j = Draw.tiny := fun j => by rw [hs.tail.nullary]; rfl
  have hp := Settled.split hs.tail.tail
  exact (Draw.twice_log (uniformed h0 h1 hhi hlo hp.1) hp.2).1

/-- The scalar words, the one-word arrays and the key of `main`. -/
abbrev sc (r : Ref sig .tc) (h : r.ty = ⟨S_, .i32⟩ := by rfl) (h' : r.space ≠ .host := by decide) (h'' : r.isScoped = false := by rfl) : TRef sig ⟨S_, .i32⟩ := .of r h h' h''
@[inherit_doc sc]
abbrev one (r : Ref sig .tc) (h : r.ty = ⟨S1, .i32⟩ := by rfl) (h' : r.space ≠ .host := by decide) (h'' : r.isScoped = false := by rfl) : TRef sig ⟨S1, .i32⟩ := .of r h h' h''

set_option maxHeartbeats 4000000 in
/-- The noise as `main` names it, and what `main` does from there. -/
theorem noisy {rest : List (HloOp τ sig (Elt Ideal))}
    (a : Settled V (TRef.nullary (sc main_c) (constantI S_ 32 1#32) :: TRef.nullary (sc main_c_0) (constantI S_ 32 32#32)
      :: TRef.binary (sc main_c) (sc main_c_0) (sc main_v0) Host.shrui :: TRef.unary (sc main_v0) (sc main_v1) id
      :: TRef.unary (sc main_v1) (one main_v2) (broadcastInDim S1 ![] bcast_S_S1)
      :: TRef.nullary (sc main_c_1) (constantI S_ 32 4294967295#32) :: TRef.binary (sc main_c) (sc main_c_1) (sc main_v3) andi
      :: TRef.unary (sc main_v3) (sc main_v4) id :: TRef.unary (sc main_v4) (one main_v5) (broadcastInDim S1 ![] bcast_S_S1)
      :: TRef.binary (one main_v2) (one main_v5) (.of main_v6 : TRef sig ⟨S2, .i32⟩)
        (fun a b => concatenate S2 0 [⟨S1, a⟩, ⟨S1, b⟩] concatenates_S1_S1_S2_d0)
      :: ((gumbel (.of main_v6) main_call0).1 ++ rest))) :
    (∀ i, rd V (.of main_v7 : TRef sig ⟨S128x32768, .f32⟩) i = Draw.draw (word (pos i))) ∧ Settled V rest := by
  have e2 : ∀ j, rd V (one main_v2) j = 0#32 := fun j => by
    rw [a.tail.tail.tail.tail.unary, a.tail.tail.tail.unary, a.tail.tail.binary, a.tail.nullary, a.nullary]; rfl
  have e5 : ∀ j, rd V (one main_v5) j = 1#32 := fun j => by
    rw [a.tail.tail.tail.tail.tail.tail.tail.tail.unary, a.tail.tail.tail.tail.tail.tail.tail.unary,
      a.tail.tail.tail.tail.tail.tail.binary, a.tail.tail.tail.tail.tail.nullary, a.nullary]
    exact (by decide : IntOp.andi 1#32 4294967295#32 = 1#32)
  have e6 := a.tail.tail.tail.tail.tail.tail.tail.tail.tail.binary
  have h0 : rd V (.of main_v6 : TRef sig ⟨S2, .i32⟩) (fun | 0 => (0 : Fin 2)) = 0#32 := by
    rw [e6]
    exact (concatenate_pair_apply_left 0 _ _ concatenates_S1_S1_S2_d0 _ rfl (fun | 0 => (0 : Fin 1)) (fun | 0 => rfl)).trans (e2 _)
  have h1 : rd V (.of main_v6 : TRef sig ⟨S2, .i32⟩) (fun | 0 => (1 : Fin 2)) = 1#32 := by
    rw [e6]
    exact (concatenate_pair_apply_right 0 _ _ concatenates_S1_S1_S2_d0 _ rfl rfl (fun | 0 => (0 : Fin 1))
      (fun | 0 => fun h => absurd rfl h) rfl).trans (e5 _)
  have g := Settled.split a.tail.tail.tail.tail.tail.tail.tail.tail.tail.tail
  exact ⟨gumbeled h0 h1 g.1, g.2⟩

end Cert.ReferenceIdeal.Noise

end
-- ==== Proof.RefTurn.lean ====
/- One iteration of the reference, as a settled line of operations: if the scores, the latest shares and their sum hold a
   row state in every row, then what the iteration leaves holds the next state. -/
module

public import proofs.«01_k».proof.Proof.DrawBound
public import proofs.«01_k».proof.Proof.Rows
public import proofs.«01_k».proof.Proof.RowMath

@[expose] public section

noncomputable section

namespace Cert.Turn

open Cert.Settle Cert.Rows Cert.RowMath Idealize.ShloMosaic Idealize.ShloMosaic.StableHlo

variable {τ : Topo} {sig : RefSig} {R C : ℕ} {V : Valuation τ sig (Elt Ideal)} {rest : List (HloOp τ sig (Elt Ideal))}

/-- Scalars, wide arrays, lines and columns of numbers. -/
abbrev Num (sig : RefSig) : Type := TRef sig ⟨⟨0, ![]⟩, .f32⟩
@[inherit_doc Num]
abbrev Wide (sig : RefSig) (R C : ℕ) : Type := TRef sig ⟨Tall R C, .f32⟩
@[inherit_doc Num]
abbrev Thin (sig : RefSig) (R : ℕ) : Type := TRef sig ⟨Line R, .f32⟩

/-- The buffers one iteration writes, in the order it writes them. -/
structure Bufs (sig : RefSig) (R C : ℕ) where
  one : Num sig
  ones : Wide sig R C
  gap : Wide sig R C
  low : Num sig
  lows : Wide sig R C
  mask : Wide sig R C
  lmask : Wide sig R C
  s : Wide sig R C
  tau : Num sig
  taus : Wide sig R C
  cool : Wide sig R C
  inf : Num sig
  top : Thin sig R
  inf' : Num sig
  infs : Thin sig R
  top' : Thin sig R
  topCol : Wide sig R 1
  tops : Wide sig R C
  fall : Wide sig R C
  w : Wide sig R C
  zero : Num sig
  z : Thin sig R
  zCol : Wide sig R 1
  zs : Wide sig R C
  p : Wide sig R C
  k : Wide sig R C

/-- Three buffers hold a row state in every row. -/
structure Holds (V : Valuation τ sig (Elt Ideal)) (s p k : Wide sig R C) (σ : Fin R → State C) : Prop where
  s : Is (rd V s) fun r => (σ r).s
  p : Is (rd V p) fun r => (σ r).p
  k : Is (rd V k) fun r => (σ r).k

/-- The scores moved by the mask. -/
theorem moved_of {s p : Wide sig R C} {b : Bufs sig R C} {σ : Fin R → State C} {h : Shape.BroadcastsInDim ⟨0, ![]⟩ (Tall R C) ![]}
    (hS : Is (rd V s) fun r => (σ r).s) (hP : Is (rd V p) fun r => (σ r).p)
    (hs : Settled V (TRef.nullary b.one (constant (F := Ideal) ⟨0, ![]⟩ .f32 0x3F800000#32)
      :: TRef.unary b.one b.ones (broadcastInDim (Tall R C) ![] h)
      :: TRef.binary b.ones p b.gap (subf (F := Ideal) (s := Tall R C) (φ := .f32))
      :: TRef.nullary b.low (constant (F := Ideal) ⟨0, ![]⟩ .f32 0x00800000#32)
      :: TRef.unary b.low b.lows (broadcastInDim (Tall R C) ![] h)
      :: TRef.binary b.gap b.lows b.mask (maximumf (F := Ideal) (s := Tall R C) (φ := .f32))
      :: TRef.unary b.mask b.lmask (Host.log (F := Ideal) (s := Tall R C) (φ := .f32))
      :: TRef.binary s b.lmask b.s (addf (F := Ideal) (s := Tall R C) (φ := .f32)) :: rest)) :
    Is (rd V b.s) (fun r => moved (σ r)) ∧ Settled V rest := by
  refine ⟨fun i => ?_, hs.tail.tail.tail.tail.tail.tail.tail.tail⟩
  rw [hs.tail.tail.tail.tail.tail.tail.tail.binary]
  show (rd V s i : EReal) + rd V b.lmask i = _
  rw [hs.tail.tail.tail.tail.tail.tail.unary]
  show (rd V s i : EReal) + Ideal.log (rd V b.mask i) = _
  rw [hs.tail.tail.tail.tail.tail.binary]
  show (rd V s i : EReal) + Ideal.log (max (rd V b.gap i) (rd V b.lows i)) = _
  rw [Draw.spreadF hs.tail.tail.tail, hs.tail.tail.binary]
  show (rd V s i : EReal) + Ideal.log (max ((rd V b.ones i : EReal) - rd V p i) Draw.tiny) = _
  have e : (max (((1 : ℝ) : EReal) - ((σ (i 0)).p (i 1) : EReal)) ((2 ^ (-126 : ℤ) : ℝ) : EReal)) = ((max (1 - (σ (i 0)).p (i 1)) floor : ℝ) : EReal) := by
    rw [← EReal.coe_sub]; exact (EReal.coe_strictMono.monotone.map_max).symm
  rw [Draw.spreadF hs, hS, hP, Draw.tiny_eq, show Ideal.ofBits .f32 0x3F800000#32 = _ from Draw.one_eq, e, Ideal.log_coe,
    if_neg (lt_max_of_lt_right floor_pos).not_ge, ← EReal.coe_add]
  rfl

/-- The row maximum taken off: some real number per row. -/
theorem fall_of {b : Bufs sig R C} {f : Fin R → Fin C → ℝ} {h : Shape.BroadcastsInDim ⟨0, ![]⟩ (Tall R C) ![]}
    {h' : Shape.BroadcastsInDim ⟨0, ![]⟩ (Line R) ![]} {hr : (Tall R C).ReducesTo [1] (Line R)} {hu : 0 < Shape.numel ⟨0, ![]⟩}
    {hc : (Line R).BroadcastsInDim (Tall R 1) ![0]} {hb : (Tall R 1).BroadcastsInDim (Tall R C) ![0, 1]}
    (hr' : (Tall R C).Reduces [1] (Line R)) (hC : 0 < C) (hS : Is (rd V b.s) f)
    (hs : Settled V (TRef.nullary b.tau (constant (F := Ideal) ⟨0, ![]⟩ .f32 0x3F800000#32)
      :: TRef.unary b.tau b.taus (broadcastInDim (Tall R C) ![] h)
      :: TRef.binary b.s b.taus b.cool (Host.divf (F := Ideal) (s := Tall R C) (φ := .f32))
      :: TRef.nullary b.inf (constant (F := Ideal) ⟨0, ![]⟩ .f32 0xFF800000#32)
      :: TRef.binary b.cool b.inf b.top (fun x v => Host.reduce (FloatOps.maximumf (F := Ideal) (φ := .f32)) x v hr hu)
      :: TRef.nullary b.inf' (constant (F := Ideal) ⟨0, ![]⟩ .f32 0xFF800000#32)
      :: TRef.unary b.inf' b.infs (broadcastInDim (Line R) ![] h')
      :: TRef.binary b.infs b.top b.top' (maximumf (F := Ideal) (s := Line R) (φ := .f32))
      :: TRef.unary b.top' b.topCol (broadcastInDim (Tall R 1) ![0] hc)
      :: TRef.unary b.topCol b.tops (broadcastInDim (Tall R C) ![0, 1] hb)
      :: TRef.binary b.cool b.tops b.fall (subf (F := Ideal) (s := Tall R C) (φ := .f32)) :: rest)) :
    ∃ M : Fin R → ℝ, Is (rd V b.fall) (fun r c => f r c - M r) ∧ Settled V rest := by
  have hcool : Is (rd V b.cool) f := fun i => by
    rw [hs.tail.tail.binary]
    show Ideal.div (rd V b.s i) (rd V b.taus i) = _
    rw [Draw.spreadF hs, show Ideal.ofBits .f32 0x3F800000#32 = _ from Draw.one_eq, Ideal.div_coe one_ne_zero, hS]
    norm_num
  obtain ⟨M, hM⟩ := max_host (S0 := ⟨0, ![]⟩) (h := hr) (hu := hu) hr' hC hcool
  have htop : IsL (rd V b.top') M := fun i => by
    rw [hs.tail.tail.tail.tail.tail.tail.tail.binary]
    show max (rd V b.infs i : EReal) (rd V b.top i) = _
    rw [Draw.spreadF hs.tail.tail.tail.tail.tail, neg_inf, hs.tail.tail.tail.tail.binary, hs.tail.tail.tail.nullary, hM]
    exact max_eq_right bot_le
  refine ⟨M, fun i => ?_, hs.tail.tail.tail.tail.tail.tail.tail.tail.tail.tail.tail⟩
  rw [hs.tail.tail.tail.tail.tail.tail.tail.tail.tail.tail.binary]
  show (rd V b.cool i : EReal) - rd V b.tops i = _
  rw [hs.tail.tail.tail.tail.tail.tail.tail.tail.tail.unary, hs.tail.tail.tail.tail.tail.tail.tail.tail.unary,
    along_host htop hc hb i, hcool, EReal.coe_sub]

/-- The softmax, from the fallen scores, and the sum it is added to. -/
theorem share_of {b : Bufs sig R C} {k : Wide sig R C} {f q : Fin R → Fin C → ℝ} {M : Fin R → ℝ}
    {hr : (Tall R C).ReducesTo [1] (Line R)} {hu : 0 < Shape.numel ⟨0, ![]⟩}
    {hc : (Line R).BroadcastsInDim (Tall R 1) ![0]} {hb : (Tall R 1).BroadcastsInDim (Tall R C) ![0, 1]}
    (hr' : (Tall R C).Reduces [1] (Line R)) (hC : 0 < C) (hF : Is (rd V b.fall) fun r c => f r c - M r) (hK : Is (rd V k) q)
    (hs : Settled V (TRef.unary b.fall b.w (Host.exp (F := Ideal) (s := Tall R C) (φ := .f32))
      :: TRef.nullary b.zero (constant (F := Ideal) ⟨0, ![]⟩ .f32 0x00000000#32)
      :: TRef.binary b.w b.zero b.z (fun x v => Host.reduceAdd (F := Ideal) (φ := .f32) x v hr hu)
      :: TRef.unary b.z b.zCol (broadcastInDim (Tall R 1) ![0] hc)
      :: TRef.unary b.zCol b.zs (broadcastInDim (Tall R C) ![0, 1] hb)
      :: TRef.binary b.w b.zs b.p (Host.divf (F := Ideal) (s := Tall R C) (φ := .f32))
      :: TRef.binary k b.p b.k (addf (F := Ideal) (s := Tall R C) (φ := .f32)) :: rest)) :
    Is (rd V b.p) (fun r => soft fun c => Real.exp (f r c))
      ∧ Is (rd V b.k) (fun r c => q r c + soft (fun c => Real.exp (f r c)) c) ∧ Settled V rest := by
  have hw : Is (rd V b.w) fun r c => Real.exp (f r c - M r) := fun i => by
    rw [hs.unary]
    show Ideal.exp (rd V b.fall i) = _
    rw [hF, Ideal.exp_coe]
  have hz : IsL (rd V b.z) fun r => ∑ c, Real.exp (f r c - M r) := by
    rw [hs.tail.tail.binary, hs.tail.nullary]
    exact sum_host hr' hw Ideal.ofBits_zero_f32
  have hp : Is (rd V b.p) fun r => soft fun c => Real.exp (f r c) := fun i => by
    have pos : 0 < ∑ c, Real.exp (f (i 0) c - M (i 0)) :=
      Finset.sum_pos (fun c _ => Real.exp_pos _) ⟨⟨0, hC⟩, Finset.mem_univ _⟩
    rw [hs.tail.tail.tail.tail.tail.binary]
    show Ideal.div (rd V b.w i) (rd V b.zs i) = _
    rw [hs.tail.tail.tail.tail.unary, hs.tail.tail.tail.unary, along_host hz hc hb i, Ideal.div_coe pos.ne', hw, ← EReal.coe_mul]
    have e : (fun c => Real.exp (f (i 0) c - M (i 0))) = fun c => Real.exp (-M (i 0)) * Real.exp (f (i 0) c) :=
      funext fun c => by rw [← Real.exp_add]; congr 1; ring
    refine congrArg _ ?_
    show Real.exp (f (i 0) (i 1) - M (i 0)) * (1 / _) = soft (fun c => Real.exp (f (i 0) c)) (i 1)
    rw [← soft_mul (Real.exp_pos (-M (i 0))).ne', ← e, mul_one_div]
    rfl
  refine ⟨hp, fun i => ?_, hs.tail.tail.tail.tail.tail.tail.tail⟩
  rw [hs.tail.tail.tail.tail.tail.tail.binary]
  show (rd V k i : EReal) + rd V b.p i = _
  rw [hK, hp, EReal.coe_add]

/-- THE ITERATION. -/
theorem turn {s p k : Wide sig R C} (b : Bufs sig R C) {σ : Fin R → State C} (h : Shape.BroadcastsInDim ⟨0, ![]⟩ (Tall R C) ![])
    (h' : Shape.BroadcastsInDim ⟨0, ![]⟩ (Line R) ![]) (hr : (Tall R C).ReducesTo [1] (Line R)) (hu : 0 < Shape.numel ⟨0, ![]⟩)
    (hc : (Line R).BroadcastsInDim (Tall R 1) ![0]) (hb : (Tall R 1).BroadcastsInDim (Tall R C) ![0, 1])
    (hr' : (Tall R C).Reduces [1] (Line R)) (hC : 0 < C) (hH : Holds V s p k σ)
    (hs : Settled V (TRef.nullary b.one (constant (F := Ideal) ⟨0, ![]⟩ .f32 0x3F800000#32)
      :: TRef.unary b.one b.ones (broadcastInDim (Tall R C) ![] h)
      :: TRef.binary b.ones p b.gap (subf (F := Ideal) (s := Tall R C) (φ := .f32))
      :: TRef.nullary b.low (constant (F := Ideal) ⟨0, ![]⟩ .f32 0x00800000#32)
      :: TRef.unary b.low b.lows (broadcastInDim (Tall R C) ![] h)
      :: TRef.binary b.gap b.lows b.mask (maximumf (F := Ideal) (s := Tall R C) (φ := .f32))
      :: TRef.unary b.mask b.lmask (Host.log (F := Ideal) (s := Tall R C) (φ := .f32))
      :: TRef.binary s b.lmask b.s (addf (F := Ideal) (s := Tall R C) (φ := .f32))
      :: TRef.nullary b.tau (constant (F := Ideal) ⟨0, ![]⟩ .f32 0x3F800000#32)
      :: TRef.unary b.tau b.taus (broadcastInDim (Tall R C) ![] h)
      :: TRef.binary b.s b.taus b.cool (Host.divf (F := Ideal) (s := Tall R C) (φ := .f32))
      :: TRef.nullary b.inf (constant (F := Ideal) ⟨0, ![]⟩ .f32 0xFF800000#32)
      :: TRef.binary b.cool b.inf b.top (fun x v => Host.reduce (FloatOps.maximumf (F := Ideal) (φ := .f32)) x v hr hu)
      :: TRef.nullary b.inf' (constant (F := Ideal) ⟨0, ![]⟩ .f32 0xFF800000#32)
      :: TRef.unary b.inf' b.infs (broadcastInDim (Line R) ![] h')
      :: TRef.binary b.infs b.top b.top' (maximumf (F := Ideal) (s := Line R) (φ := .f32))
      :: TRef.unary b.top' b.topCol (broadcastInDim (Tall R 1) ![0] hc)
      :: TRef.unary b.topCol b.tops (broadcastInDim (Tall R C) ![0, 1] hb)
      :: TRef.binary b.cool b.tops b.fall (subf (F := Ideal) (s := Tall R C) (φ := .f32))
      :: TRef.unary b.fall b.w (Host.exp (F := Ideal) (s := Tall R C) (φ := .f32))
      :: TRef.nullary b.zero (constant (F := Ideal) ⟨0, ![]⟩ .f32 0x00000000#32)
      :: TRef.binary b.w b.zero b.z (fun x v => Host.reduceAdd (F := Ideal) (φ := .f32) x v hr hu)
      :: TRef.unary b.z b.zCol (broadcastInDim (Tall R 1) ![0] hc)
      :: TRef.unary b.zCol b.zs (broadcastInDim (Tall R C) ![0, 1] hb)
      :: TRef.binary b.w b.zs b.p (Host.divf (F := Ideal) (s := Tall R C) (φ := .f32))
      :: TRef.binary k b.p b.k (addf (F := Ideal) (s := Tall R C) (φ := .f32)) :: rest)) :
    Holds V b.s b.p b.k (fun r => step (σ r)) ∧ Settled V rest := by
  obtain ⟨h1, hs⟩ := moved_of hH.s hH.p hs
  obtain ⟨M, h2, hs⟩ := fall_of hr' hC h1 hs
  obtain ⟨h3, h4, hs⟩ := share_of hr' hC h2 hH.k hs
  exact ⟨⟨h1, h3, h4⟩, hs⟩

end Cert.Turn

end
-- ==== Proof.RefValue.lean ====
/- The reference's result: every row is the sum of shares that eight iterations of the row leave, started from the scores
   plus the noise. -/
module

public import proofs.«01_k».proof.Proof.RefNoise
public import proofs.«01_k».proof.Proof.RefTurn
public import Idealize.ShloMosaic.Lib.Quiescent

@[expose] public section

set_option maxRecDepth 20000

noncomputable section

namespace Cert.ReferenceIdeal.Result

open Cert.ReferenceIdeal Cert.ReferenceIdeal.Gen Cert.ReferenceIdeal.Line Cert.ReferenceIdeal.Noise Cert.Settle Cert.Rows Cert.RowMath Cert.Turn
open Idealize.ShloMosaic Idealize.ShloMosaic.StableHlo Idealize.SL.Sem

/-- What each of the eight iterations writes. -/
noncomputable def bufs0 : Bufs sig 128 32768 :=
  ⟨.of main_cst_3, .of main_v11, .of main_v12, .of main_cst_4, .of main_v13, .of main_v14, .of main_v15, .of main_v16, .of main_cst_5, .of main_v17, .of main_v18, .of main_cst_6, .of main_v19,
   .of main_cst_7, .of main_v20, .of main_v21, .of main_v22, .of main_v23, .of main_v24, .of main_v25, .of main_cst_8, .of main_v26, .of main_v27, .of main_v28, .of main_v29, .of main_v30⟩
@[inherit_doc bufs0]
noncomputable def bufs1 : Bufs sig 128 32768 :=
  ⟨.of main_cst_9, .of main_v31, .of main_v32, .of main_cst_10, .of main_v33, .of main_v34, .of main_v35, .of main_v36, .of main_cst_11, .of main_v37, .of main_v38, .of main_cst_12, .of main_v39,
   .of main_cst_13, .of main_v40, .of main_v41, .of main_v42, .of main_v43, .of main_v44, .of main_v45, .of main_cst_14, .of main_v46, .of main_v47, .of main_v48, .of main_v49, .of main_v50⟩
@[inherit_doc bufs0]
noncomputable def bufs2 : Bufs sig 128 32768 :=
  ⟨.of main_cst_15, .of main_v51, .of main_v52, .of main_cst_16, .of main_v53, .of main_v54, .of main_v55, .of main_v56, .of main_cst_17, .of main_v57, .of main_v58, .of main_cst_18, .of main_v59,
   .of main_cst_19, .of main_v60, .of main_v61, .of main_v62, .of main_v63, .of main_v64, .of main_v65, .of main_cst_20, .of main_v66, .of main_v67, .of main_v68, .of main_v69, .of main_v70⟩
@[inherit_doc bufs0]
noncomputable def bufs3 : Bufs sig 128 32768 :=
  ⟨.of main_cst_21, .of main_v71, .of main_v72, .of main_cst_22, .of main_v73, .of main_v74, .of main_v75, .of main_v76, .of main_cst_23, .of main_v77, .of main_v78, .of main_cst_24, .of main_v79,
   .of main_cst_25, .of main_v80, .of main_v81, .of main_v82, .of main_v83, .of main_v84, .of main_v85, .of main_cst_26, .of main_v86, .of main_v87, .of main_v88, .of main_v89, .of main_v90⟩
@[inherit_doc bufs0]
noncomputable def bufs4 : Bufs sig 128 32768 :=
  ⟨.of main_cst_27, .of main_v91, .of main_v92, .of main_cst_28, .of main_v93, .of main_v94, .of main_v95, .of main_v96, .of main_cst_29, .of main_v97, .of main_v98, .of main_cst_30, .of main_v99,
   .of main_cst_31, .of main_v100, .of main_v101, .of main_v102, .of main_v103, .of main_v104, .of main_v105, .of main_cst_32, .of main_v106, .of main_v107, .of main_v108, .of main_v109, .of main_v110⟩
@[inherit_doc bufs0]
noncomputable def bufs5 : Bufs sig 128 32768 :=
  ⟨.of main_cst_33, .of main_v111, .of main_v112, .of main_cst_34, .of main_v113, .of main_v114, .of main_v115, .of main_v116, .of main_cst_35, .of main_v117, .of main_v118, .of main_cst_36, .of main_v119,
   .of main_cst_37, .of main_v120, .of main_v121, .of main_v122, .of main_v123, .of main_v124, .of main_v125, .of main_cst_38, .of main_v126, .of main_v127, .of main_v128, .of main_v129, .of main_v130⟩
@[inherit_doc bufs0]
noncomputable def bufs6 : Bufs sig 128 32768 :=
  ⟨.of main_cst_39, .of main_v131, .of main_v132, .of main_cst_40, .of main_v133, .of main_v134, .of main_v135, .of main_v136, .of main_cst_41, .of main_v137, .of main_v138, .of main_cst_42, .of main_v139,
   .of main_cst_43, .of main_v140, .of main_v141, .of main_v142, .of main_v143, .of main_v144, .of main_v145, .of main_cst_44, .of main_v146, .of main_v147, .of main_v148, .of main_v149, .of main_v150⟩
@[inherit_doc bufs0]
noncomputable def bufs7 : Bufs sig 128 32768 :=
  ⟨.of main_cst_45, .of main_v151, .of main_v152, .of main_cst_46, .of main_v153, .of main_v154, .of main_v155, .of main_v156, .of main_cst_47, .of main_v157, .of main_v158, .of main_cst_48, .of main_v159,
   .of main_cst_49, .of main_v160, .of main_v161, .of main_v162, .of main_v163, .of main_v164, .of main_v165, .of main_cst_50, .of main_v166, .of main_v167, .of main_v168, .of main_v169, .of main_v170⟩

/-- Where the iterations start. -/
abbrev s0 : Wide sig 128 32768 := .of main_v8
@[inherit_doc s0]
abbrev p0 : Wide sig 128 32768 := .of main_v10
@[inherit_doc s0]
abbrev k0 : Wide sig 128 32768 := .of main_v9
@[inherit_doc s0]
abbrev cp0 : Num sig := .of main_cst_2
@[inherit_doc s0]
abbrev ck0 : Num sig := .of main_cst

attribute [local irreducible] Host.reduce Host.reduceAdd

theorem reduces : (Tall 128 32768).Reduces [1] (Line 128) := by decide

/-- The noise at a row and a column. -/
def noise (r : Fin 128) (c : Fin 32768) : ℝ := Draw.gum (Hash.word (r.val * 32768 + c.val))

variable {V : Valuation τ sig (Elt Ideal)} {d : Dev nD} {x : Fin 128 → Fin 32768 → ℝ}

/-- A scalar zero spread over an array. -/
theorem zeros {c : Num sig} {b : Wide sig 128 32768} {h : Shape.BroadcastsInDim ⟨0, ![]⟩ (Tall 128 32768) ![]} {rest : List (HloOp τ sig (Elt Ideal))}
    (hs : Settled V (TRef.nullary c (constant (F := Ideal) ⟨0, ![]⟩ .f32 0x00000000#32)
      :: TRef.unary c b (broadcastInDim (Tall 128 32768) ![] h) :: rest)) : Is (rd V b) fun _ _ => 0 := fun i => by
  rw [Draw.spreadF hs]; exact Ideal.ofBits_zero_f32

/-- The scores with the noise added, and the two zero arrays the iterations start from. -/
theorem begun {a g y p k : Wide sig 128 32768} {cp ck : Num sig} {h : Shape.BroadcastsInDim ⟨0, ![]⟩ (Tall 128 32768) ![]}
    {rest : List (HloOp τ sig (Elt Ideal))} (hx : Is (rd V a) x) (hg : Is (rd V g) noise)
    (hs : Settled V (TRef.binary a g y (addf (F := Ideal) (s := Tall 128 32768) (φ := .f32))
      :: TRef.nullary ck (constant (F := Ideal) ⟨0, ![]⟩ .f32 0x00000000#32) :: TRef.unary ck k (broadcastInDim (Tall 128 32768) ![] h)
      :: TRef.nullary cp (constant (F := Ideal) ⟨0, ![]⟩ .f32 0x00000000#32) :: TRef.unary cp p (broadcastInDim (Tall 128 32768) ![] h)
      :: rest)) : Holds V y p k (fun r => initial fun c => x r c + noise r c) ∧ Settled V rest := by
  refine ⟨⟨fun i => ?_, zeros hs.tail.tail.tail, zeros hs.tail⟩, hs.tail.tail.tail.tail.tail⟩
  rw [hs.binary]
  show (rd V a i : EReal) + rd V g i = _
  rw [hx, hg, ← EReal.coe_add]; rfl

set_option maxHeartbeats 4000000 in
/-- The line's end, row by row. -/
theorem value (hs : Settled V (whole d).1) (hx : Is (rd V (.of main_arg0 : Wide sig 128 32768)) x) :
    Is (rd V (.of main_v170 : Wide sig 128 32768)) fun r => (step^[8] (initial fun c => x r c + noise r c)).k := by
  have hp := Settled.split (l₁ := (main0 d).1) hs
  have ⟨hg, hr⟩ := noisy hp.1
  replace hs := Settled.join hr hp.2
  clear hp hr
  have hN : Is (rd V (.of main_v7 : Wide sig 128 32768)) noise := fun i => (hg i).trans (Draw.draw_eq _)
  replace ⟨h, hs⟩ := begun (y := s0) (p := p0) (k := k0) (cp := cp0) (ck := ck0) (h := bcast_S_S128x32768) hx hN hs
  replace ⟨h, hs⟩ := turn bufs0 bcast_S_S128x32768 bcast_S_S128 reducesTo_S128x32768_S128_d1 h_S_ bcast_S128_S128x1_0
    bcast_S128x1_S128x32768_0_1 reduces (by norm_num) h hs
  replace ⟨h, hs⟩ := turn bufs1 bcast_S_S128x32768 bcast_S_S128 reducesTo_S128x32768_S128_d1 h_S_ bcast_S128_S128x1_0
    bcast_S128x1_S128x32768_0_1 reduces (by norm_num) h hs
  replace ⟨h, hs⟩ := turn bufs2 bcast_S_S128x32768 bcast_S_S128 reducesTo_S128x32768_S128_d1 h_S_ bcast_S128_S128x1_0
    bcast_S128x1_S128x32768_0_1 reduces (by norm_num) h hs
  replace ⟨h, hs⟩ := turn bufs3 bcast_S_S128x32768 bcast_S_S128 reducesTo_S128x32768_S128_d1 h_S_ bcast_S128_S128x1_0
    bcast_S128x1_S128x32768_0_1 reduces (by norm_num) h hs
  replace ⟨h, hs⟩ := turn bufs4 bcast_S_S128x32768 bcast_S_S128 reducesTo_S128x32768_S128_d1 h_S_ bcast_S128_S128x1_0
    bcast_S128x1_S128x32768_0_1 reduces (by norm_num) h hs
  replace ⟨h, hs⟩ := turn bufs5 bcast_S_S128x32768 bcast_S_S128 reducesTo_S128x32768_S128_d1 h_S_ bcast_S128_S128x1_0
    bcast_S128x1_S128x32768_0_1 reduces (by norm_num) h hs
  replace ⟨h, hs⟩ := turn bufs6 bcast_S_S128x32768 bcast_S_S128 reducesTo_S128x32768_S128_d1 h_S_ bcast_S128_S128x1_0
    bcast_S128x1_S128x32768_0_1 reduces (by norm_num) h hs
  replace ⟨h, hs⟩ := turn bufs7 bcast_S_S128x32768 bcast_S_S128 reducesTo_S128x32768_S128_d1 h_S_ bcast_S128_S128x1_0
    bcast_S128x1_S128x32768_0_1 reduces (by norm_num) h hs
  exact h.k

end Cert.ReferenceIdeal.Result

end
-- ==== Proof.RefRun.lean ====
/- The reference's run: its result array row by row, its argument kept, its machine quiet. -/
module

public import proofs.«01_k».proof.Proof.RefValue
public import Idealize.ShloMosaic.Lib.StableHlo.RunHlo

@[expose] public section

set_option maxRecDepth 20000

noncomputable section

namespace Cert.ReferenceIdeal.Result

open Cert.ReferenceIdeal Cert.ReferenceIdeal.Gen Cert.ReferenceIdeal.Line Cert.Settle Cert.Rows Cert.RowMath
open Idealize.ShloMosaic Idealize.ShloMosaic.StableHlo Idealize.SL.Sem

variable (m : (ℓ : Loc nD τ sig) → Buf (Elt Ideal) ℓ) (ρ : Dev nD → PrngReg)

/-- Every buffer ends as the line leaves it. -/
theorem run_line : θ_run (defs (F := Ideal)) (onTc (τ := τ) (main (F := Ideal))) ⟨m, fun _ => 0, ρ⟩ fun r =>
    ∀ (d : Dev nD) (b : Ref sig .tc), r.2.mem ((d.tc : Thread nD τ).loc b) = after (whole d).1 (launchContents m d) (Proc.devRef .tc b) :=
  run_seq (by decide) (by decide) defs main (fun d => (whole d).1) (fun d => (whole d).2) (fun d => (rising d).scope) m ρ
    fun d => (rising d).decided

/-- The argument array is no operation's result. -/
theorem kept (d : Dev nD) : after (whole d).1 (launchContents m d) (Proc.devRef .tc main_arg0) = m ((d.tc : Thread nD τ).loc main_arg0) :=
  (rising d).keeps _ main_arg0 (by decide)

/-- THE RUN. -/
theorem run : θ_run (defs (F := Ideal)) (onTc (τ := τ) (main (F := Ideal))) ⟨m, fun _ => 0, ρ⟩ fun r => ∀ d : Dev nD,
    (∀ x : Fin 128 → Fin 32768 → ℝ, Is (m ((d.tc : Thread nD τ).loc main_arg0)) x →
      Is (r.2.mem ((d.tc : Thread nD τ).loc main_v170)) fun r => (step^[8] (initial fun c => x r c + noise r c)).k)
    ∧ r.2.mem ((d.tc : Thread nD τ).loc main_arg0) = m ((d.tc : Thread nD τ).loc main_arg0) :=
  (θ_run defs _ _).mono (fun r h d => ⟨fun x hx => by
      rw [h d main_v170]
      refine value ((rising d).settled (launchContents m d)) ?_
      show Is (after (whole d).1 (launchContents m d) (Proc.devRef .tc main_arg0)) x
      rw [kept]; exact hx, (h d main_arg0).trans (kept m d)⟩) (run_line m ρ)

/-- The reference has no semaphores at all. -/
theorem quiet (s : MemSt nD τ sig (Elt Ideal)) : s.sem = fun _ => 0 := sem_eq_zero_of_no_sems (by decide) s

end Cert.ReferenceIdeal.Result

end
-- ==== Proof.PreRead.lean ====
/- The precondition, read: where the predicate's one bit is set, the argument holds real numbers of size at most 32. -/
module

public import proofs.«01_k».proof.Pre_scores_bounded
public import proofs.«01_k».proof.Proof.Rows
public import Idealize.ShloMosaic.Lib.ReduceAll
public import Idealize.ShloMosaic.Lib.Pointwise.Select

@[expose] public section

noncomputable section

namespace Cert.Pre_scores_bounded

open Cert.Rows Idealize.ShloMosaic

/-- What the predicate's operations ask of their shapes. -/
theorem facts : Facts where
  bcast_S_S128x32768 := by decide
  reducesTo_S128x32768_S_d0_1 := by decide
  h_S_ := by decide

attribute [local instance] facts

instance : Subsingleton S_.Idx := ⟨fun _ _ => funext fun a => a.elim0⟩

/-- The predicate's bound. -/
theorem bound_eq : (Scalar.ofBits (F := Ideal) .f32 0x42000000#32 : EReal) = ((32 : ℝ) : EReal) := by
  show Ideal.ofBits .f32 0x42000000#32 = _
  simp [Ideal.ofBits, Ideal.ieee, -EReal.coe_mul]; norm_num

/-- A number no larger than 32 either way round is real. -/
theorem real_of_abs_le {a : EReal} (h : max a (-a) ≤ ((32 : ℝ) : EReal)) : ∃ r : ℝ, a = r ∧ |r| ≤ 32 := by
  obtain ⟨h1, h2⟩ := max_le_iff.mp h
  induction a with
  | bot => exact absurd h2 (by simp)
  | top => exact absurd h1 (by simp)
  | coe r =>
    rw [← EReal.coe_neg] at h2
    exact ⟨r, rfl, abs_le.mpr ⟨by linarith [EReal.coe_le_coe_iff.mp h2], EReal.coe_le_coe_iff.mp h1⟩⟩

/-- Each entry of the argument is real and of size at most 32, -/
theorem entry {x : FVec Ideal S128x32768 .f32} (h : fn (F := Ideal) x = fun _ => 1#1) (i : S128x32768.Idx) :
    ∃ r : ℝ, (x i : EReal) = r ∧ |r| ≤ 32 := by
  have hi := Host.reduce_andi_all _ _ _ _ _ (congrFun h (Shape.Idx.first Facts.h_S_)) i
  exact real_of_abs_le (((Ideal.cmp_ole_eq_one _ _).mp hi).trans bound_eq.le)

/-- so the argument holds real numbers within 32 of zero. -/
theorem reals {x : FVec Ideal S128x32768 .f32} (h : fn (F := Ideal) x = fun _ => 1#1) :
    ∃ f : Fin 128 → Fin 32768 → ℝ, Is (R := 128) (C := 32768) x f ∧ ∀ r c, |f r c| ≤ 32 := by
  choose f hf hb using entry h
  let at' (r : Fin 128) (c : Fin 32768) : S128x32768.Idx := fun | ⟨0, _⟩ => r | ⟨1, _⟩ => c
  refine ⟨fun r c => f (at' r c), fun i => (hf i).trans ?_, fun r c => hb _⟩
  have e : at' (i 0) (i 1) = i := funext fun a => match a with | ⟨0, _⟩ => rfl | ⟨1, _⟩ => rfl
  exact congrArg (fun j => ((f j : ℝ) : EReal)) e.symm

end Cert.Pre_scores_bounded

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KerArray
public import proofs.«01_k».proof.Proof.RefRun
public import proofs.«01_k».proof.Proof.PreRead
public import Idealize.ShloMosaic.Adequacy
public import Idealize.ShloMosaic.Init

@[expose] public section

noncomputable section

namespace Cert.Proof

open Idealize.ShloMosaic Idealize.SL.Sem Cert.Rows

/-- The reference ends with its argument kept and its counters at zero, from any memory. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩ fun r =>
      (∀ c : Dev ReferenceIdeal.nD, r.2.mem ((c.tc : Thread ReferenceIdeal.nD ReferenceIdeal.τ).loc ReferenceIdeal.main_arg0)
        = m ((c.tc : Thread ReferenceIdeal.nD ReferenceIdeal.τ).loc ReferenceIdeal.main_arg0)) ∧ r.2.sem = fun _ => 0 :=
  (θ_run ReferenceIdeal.defs _ _).mono (fun r h => ⟨fun c => (h c).2, ReferenceIdeal.Result.quiet r.2⟩) (ReferenceIdeal.Result.run m ρ)

attribute [local instance] Cert.KernelIdeal.Gen.facts Cert.ReferenceIdeal.Gen.facts Cert.Pre_scores_bounded.facts

/-- The kernel and the reference end with the same array where the scores are within 32 of zero. -/
theorem same_result : Cert.algebraic_KernelIdeal_ReferenceIdeal_pre_scores_bounded := by
  intro m g m' g' hpre hag
  choose x hx hb using fun c => Pre_scores_bounded.reals (hpre c)
  refine ⟨fun c i => ((KernelIdeal.Array.result (x c) (i 0) (i 1) : ℝ) : EReal), ?_, ?_⟩
  · exact (θ_run KernelIdeal.defs _ _).mono (fun r h c => ⟨funext fun i => (h c).1 (x c) (hx c) (hb c) i, (h c).2⟩)
      (KernelIdeal.Array.run m g)
  · refine (θ_run ReferenceIdeal.defs _ _).mono (fun r h c => ⟨funext fun i => (h c).1 (x c) ?_ i, (h c).2⟩)
      (ReferenceIdeal.Result.run m' g')
    intro i
    exact (congrFun (hag c) i).trans (hx c i)

theorem claim : Cert.Claim :=
  ⟨Cert.Kernel.Gen.facts, Cert.KernelIdeal.Gen.facts, Cert.ReferenceIdeal.Gen.facts, Cert.Pre_scores_bounded.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    same_result⟩

end Cert.Proof

end
